-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_BiasTable (m : (ℓ : Loc Cert.BiasTable.nD Cert.BiasTable.τ Cert.BiasTable.sig) → Buf (Elt Bits) ℓ) : Prop :=
  True

def Pre_BiasTableIdeal (m : (ℓ : Loc Cert.BiasTableIdeal.nD Cert.BiasTableIdeal.τ Cert.BiasTableIdeal.sig) → Buf (Elt Ideal) ℓ) : Prop :=
  True

def Pre_BiasReferenceIdeal (m : (ℓ : Loc Cert.BiasReferenceIdeal.nD Cert.BiasReferenceIdeal.τ Cert.BiasReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_BiasTable [hBiasTable : Cert.BiasTable.Facts] : Prop :=
  ∀ (m : (ℓ : Loc Cert.BiasTable.nD Cert.BiasTable.τ Cert.BiasTable.sig) → Buf (Elt Bits) ℓ) (g : Dev Cert.BiasTable.nD → PrngReg), Pre_BiasTable m →
    θ_run (Cert.BiasTable.defs (F := Bits)) (onTc (τ := Cert.BiasTable.τ) (Cert.BiasTable.main (F := Bits))) ⟨m, fun _ => 0, g⟩ (fun r => (∀ c : Dev Cert.BiasTable.nD,
      r.2.mem ((c.tc : Thread Cert.BiasTable.nD Cert.BiasTable.τ).loc Cert.BiasTable.main_arg0) = m ((c.tc : Thread Cert.BiasTable.nD Cert.BiasTable.τ).loc Cert.BiasTable.main_arg0))
      ∧ r.2.sem = fun _ => 0)

def quiescent_BiasTableIdeal [hBiasTableIdeal : Cert.BiasTableIdeal.Facts] : Prop :=
  ∀ (m : (ℓ : Loc Cert.BiasTableIdeal.nD Cert.BiasTableIdeal.τ Cert.BiasTableIdeal.sig) → Buf (Elt Ideal) ℓ) (g : Dev Cert.BiasTableIdeal.nD → PrngReg), Pre_BiasTableIdeal m →
    θ_run (Cert.BiasTableIdeal.defs (F := Ideal)) (onTc (τ := Cert.BiasTableIdeal.τ) (Cert.BiasTableIdeal.main (F := Ideal))) ⟨m, fun _ => 0, g⟩ (fun r => (∀ c : Dev Cert.BiasTableIdeal.nD,
      r.2.mem ((c.tc : Thread Cert.BiasTableIdeal.nD Cert.BiasTableIdeal.τ).loc Cert.BiasTableIdeal.main_arg0) = m ((c.tc : Thread Cert.BiasTableIdeal.nD Cert.BiasTableIdeal.τ).loc Cert.BiasTableIdeal.main_arg0))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InProj_InProjIdeal : Prop :=
  IdealRules.named_const.Statement Cert.InProjIdeal.κ "q_scale" .f32 0x3E8293EE#32 (((Real.sqrt 32)⁻¹ * (Real.log 2)⁻¹ : ℝ) : EReal)

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)) (v3 : (c : Dev Cert.InProjIdeal.nD) → Buf (Elt Ideal) ((c.tc : Thread Cert.InProjIdeal.nD Cert.InProjIdeal.τ).loc Cert.InProjIdeal.main_v2_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_v2_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v14) = v0 c
          ∧ r.2.mem ((c.tc : Thread Cert.InProjReferenceIdeal.nD Cert.InProjReferenceIdeal.τ).loc Cert.InProjReferenceIdeal.main_v17) = v1 c
          ∧ r.2.mem ((c.tc : Thread Cert.InProjReferenceIdeal.nD Cert.InProjReferenceIdeal.τ).loc Cert.InProjReferenceIdeal.main_v20) = v2 c
          ∧ r.2.mem ((c.tc : Thread Cert.InProjReferenceIdeal.nD Cert.InProjReferenceIdeal.τ).loc Cert.InProjReferenceIdeal.main_v5) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_BiasTable_BiasTableIdeal : Prop :=
  IdealRules.named_const.Statement Cert.BiasTableIdeal.κ "log2_e" .f32 0x3FB8AA3B#32 (((Real.log 2)⁻¹ : ℝ) : EReal)
  ∧ IdealRules.named_const.Statement Cert.BiasTableIdeal.κ "mask" .f32 0xF149F2CA#32 ⊥

def algebraic_BiasTableIdeal_BiasReferenceIdeal [hBiasTableIdeal : Cert.BiasTableIdeal.Facts] [hBiasReferenceIdeal : Cert.BiasReferenceIdeal.Facts] : Prop :=
  ∀ (m : (ℓ : Loc Cert.BiasTableIdeal.nD Cert.BiasTableIdeal.τ Cert.BiasTableIdeal.sig) → Buf (Elt Ideal) ℓ) (g : Dev Cert.BiasTableIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasTableIdeal m →
    (∀ c : Dev Cert.BiasTableIdeal.nD,
      m' ((c.tc : Thread Cert.BiasReferenceIdeal.nD Cert.BiasReferenceIdeal.τ).loc Cert.BiasReferenceIdeal.main_arg0) = m ((c.tc : Thread Cert.BiasTableIdeal.nD Cert.BiasTableIdeal.τ).loc Cert.BiasTableIdeal.main_arg0)) →
    ∃ (v0 : (c : Dev Cert.BiasTableIdeal.nD) → Buf (Elt Ideal) ((c.tc : Thread Cert.BiasTableIdeal.nD Cert.BiasTableIdeal.τ).loc Cert.BiasTableIdeal.main_v39)),
      θ_run (Cert.BiasTableIdeal.defs (F := Ideal)) (onTc (τ := Cert.BiasTableIdeal.τ) (Cert.BiasTableIdeal.main (F := Ideal))) ⟨m, fun _ => 0, g⟩ (fun r => ∀ c : Dev Cert.BiasTableIdeal.nD,
          r.2.mem ((c.tc : Thread Cert.BiasTableIdeal.nD Cert.BiasTableIdeal.τ).loc Cert.BiasTableIdeal.main_v39) = v0 c
          ∧ r.2.mem ((c.tc : Thread Cert.BiasTableIdeal.nD Cert.BiasTableIdeal.τ).loc Cert.BiasTableIdeal.main_arg0) = m ((c.tc : Thread Cert.BiasTableIdeal.nD Cert.BiasTableIdeal.τ).loc Cert.BiasTableIdeal.main_arg0))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v46) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hBiasTable : Cert.BiasTable.Facts) (hBiasTableIdeal : Cert.BiasTableIdeal.Facts) (hBiasReferenceIdeal : Cert.BiasReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_BiasTable (hBiasTable := hBiasTable)
    ∧ quiescent_BiasTableIdeal (hBiasTableIdeal := hBiasTableIdeal)
    ∧ quiescent_BiasReferenceIdeal (hBiasReferenceIdeal := hBiasReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_BiasTable_BiasTableIdeal
    ∧ algebraic_BiasTableIdeal_BiasReferenceIdeal (hBiasTableIdeal := hBiasTableIdeal) (hBiasReferenceIdeal := hBiasReferenceIdeal)
-- ==== Pre_finite.lean ====
abbrev S8x8192x1024 : Shape := ⟨3, ![8, 8192, 1024]⟩
abbrev S1x1024x4096 : Shape := ⟨3, ![1, 1024, 4096]⟩
abbrev S1x4x512x512 : Shape := ⟨4, ![1, 4, 512, 512]⟩
abbrev S1x2048 : Shape := ⟨2, ![1, 2048]⟩
abbrev S1x2048x1024 : Shape := ⟨3, ![1, 2048, 1024]⟩
abbrev S2x1024 : Shape := ⟨2, ![2, 1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4x512x512 : S_.BroadcastsInDim S1x4x512x512 (![] : Fin 0 → Fin S1x4x512x512.rank)
  reducesTo_S1x4x512x512_S_d0_1_2_3 : S1x4x512x512.ReducesTo [0, 1, 2, 3] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S8x8192x1024 .f32) (main_arg1 : FVec F S1x1024x4096 .f32) (main_arg2 : FVec F S1x4x512x512 .f32) (main_arg3 : FVec F S1x2048 .f32) (main_arg4 : FVec F S1x2048x1024 .f32) (main_arg5 : FVec F S2x1024 .f32) (main_arg6 : FVec F S2x1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1x1024x4096 .f32 := Host.absf main_arg1
  let main_cst_0 : FVec F S_ .f32 := constant S_ .f32 0x7F800000#32
  let main_v5 : FVec F S1x1024x4096 .f32 := broadcastInDim S1x1024x4096 ![] bcast_S_S1x1024x4096 main_cst_0
  let main_v6 : IVec S1x1024x4096 1 := cmpf .olt main_v4 main_v5
  let main_c_1 : IVec S_ 1 := constantI S_ 1 1#1
  let main_v7 : IVec S_ 1 := (fun x v => Host.reduce IntOp.andi x v reducesTo_S1x1024x4096_S_d0_1_2 h_S_) main_v6 main_c_1
  let main_v8 : IVec S_ 1 := andi main_v3 main_v7
  let main_v9 : FVec F S1x4x512x512 .f32 := Host.absf main_arg2
  let main_cst_2 : FVec F S_ .f32 := constant S_ .f32 0x7F800000#32
  let main_v10 : FVec F S1x4x512x512 .f32 := broadcastInDim S1x4x512x512 ![] bcast_S_S1x4x512x512 main_cst_2
  let main_v11 : IVec S1x4x512x512 1 := cmpf .olt main_v9 main_v10
  let main_c_3 : IVec S_ 1 := constantI S_ 1 1#1
  let main_v12 : IVec S_ 1 := (fun x v => Host.reduce IntOp.andi x v reducesTo_S1x4x512x512_S_d0_1_2_3 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Kernel.lean ====
abbrev S8x8192x1024 : Shape := ⟨3, ![8, 8192, 1024]⟩
abbrev S1x1024x4096 : Shape := ⟨3, ![1, 1024, 4096]⟩
abbrev S1x4x512x512 : Shape := ⟨4, ![1, 4, 512, 512]⟩
abbrev S1x2048 : Shape := ⟨2, ![1, 2048]⟩
abbrev S1x2048x1024 : Shape := ⟨3, ![1, 2048, 1024]⟩
abbrev S2x1024 : Shape := ⟨2, ![2, 1024]⟩
abbrev S2048 : Shape := ⟨1, ![2048]⟩
abbrev S1024x4096 : Shape := ⟨2, ![1024, 4096]⟩
abbrev S4x512x512 : Shape := ⟨3, ![4, 512, 512]⟩
abbrev S1024x512 : Shape := ⟨2, ![1024, 512]⟩
abbrev S1x512x512 : Shape := ⟨3, ![1, 512, 512]⟩
abbrev S1x512 : Shape := ⟨2, ![1, 512]⟩
abbrev S1024x1024 : Shape := ⟨2, ![1024, 1024]⟩
abbrev S512x512 : Shape := ⟨2, ![512, 512]⟩
abbrev S2048x1024 : Shape := ⟨2, ![2048, 1024]⟩
abbrev S1x1024 : Shape := ⟨2, ![1, 1024]⟩
abbrev S1024 : Shape := ⟨1, ![1024]⟩
abbrev S1x8x1024 : Shape := ⟨3, ![1, 8, 1024]⟩
abbrev S1x1024x1024 : Shape := ⟨3, ![1, 1024, 1024]⟩
abbrev S1040x1024 : Shape := ⟨2, ![1040, 1024]⟩
abbrev S8x1024 : Shape := ⟨2, ![8, 1024]⟩
abbrev S1040x512 : Shape := ⟨2, ![1040, 512]⟩
abbrev S1024x1 : Shape := ⟨2, ![1024, 1]⟩
abbrev S512x1024 : Shape := ⟨2, ![512, 1024]⟩
abbrev S256x1024 : Shape := ⟨2, ![256, 1024]⟩
abbrev S256x512 : Shape := ⟨2, ![256, 512]⟩
abbrev S1x256x1024 : Shape := ⟨3, ![1, 256, 1024]⟩
abbrev S256 : Shape := ⟨1, ![256]⟩
abbrev S256x1 : Shape := ⟨2, ![256, 1]⟩

abbrev nBuf : Space → Nat
  | .hbm => 21
  | .vmem => 23
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4096, .f32⟩
  | .hbm, ⟨2, _⟩ => ⟨S1x4x512x512, .f32⟩
  | .hbm, ⟨3, _⟩ => ⟨S1x2048, .f32⟩
  | .hbm, ⟨4, _⟩ => ⟨S1x2048x1024, .f32⟩
  | .hbm, ⟨5, _⟩ => ⟨S2x1024, .f32⟩
  | .hbm, ⟨6, _⟩ => ⟨S2x1024, .f32⟩
  | .hbm, ⟨7, _⟩ => ⟨S2048, .f32⟩
  | .hbm, ⟨8, _⟩ => ⟨S1x2048, .f32⟩
  | .hbm, ⟨9, _⟩ => ⟨S1024x4096, .f32⟩
  | .hbm, ⟨10, _⟩ => ⟨S4x512x512, .f32⟩
  | .hbm, ⟨11, _⟩ => ⟨S1024x4096, .bf16⟩
  | .hbm, ⟨12, _⟩ => ⟨S2048x1024, .f32⟩
  | .hbm, ⟨13, _⟩ => ⟨S2048x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8x8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1024x1024, .bf16⟩
  | .local _ .vmem, ⟨10, _⟩ => ⟨S1x8x1024, .f32⟩
  | .local _ .vmem, ⟨11, _⟩ => ⟨S1x8x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x8x1024, .f32⟩
  | .local _ .vmem, ⟨15, _⟩ => ⟨S1x8x1024, .f32⟩
  | .local _ .vmem, ⟨16, _⟩ => ⟨S1024x4096, .bf16⟩
  | .local _ .vmem, ⟨17, _⟩ => ⟨S2048x1024, .bf16⟩
  | .local _ .vmem, ⟨18, _⟩ => ⟨S1x1024, .f32⟩
  | .local _ .vmem, ⟨19, _⟩ => ⟨S1x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1040x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S8x8192x1024 : Shape := ⟨3, ![8, 8192, 1024]⟩
abbrev S1x1024x4096 : Shape := ⟨3, ![1, 1024, 4096]⟩
abbrev S1x4x512x512 : Shape := ⟨4, ![1, 4, 512, 512]⟩
abbrev S1x2048 : Shape := ⟨2, ![1, 2048]⟩
abbrev S1x2048x1024 : Shape := ⟨3, ![1, 2048, 1024]⟩
abbrev S2x1024 : Shape := ⟨2, ![2, 1024]⟩
abbrev S1024x4096 : Shape := ⟨2, ![1024, 4096]⟩
abbrev S4x512x512 : Shape := ⟨3, ![4, 512, 512]⟩
abbrev S2048 : Shape := ⟨1, ![2048]⟩
abbrev S2048x1024 : Shape := ⟨2, ![2048, 1024]⟩
abbrev S8x8192x4096 : Shape := ⟨3, ![8, 8192, 4096]⟩
abbrev S8x8192x2048 : Shape := ⟨3, ![8, 8192, 2048]⟩
abbrev S8x8192x4x512 : Shape := ⟨4, ![8, 8192, 4, 512]⟩
abbrev S8x8192x1x512 : Shape := ⟨4, ![8, 8192, 1, 512]⟩
abbrev S8x8192x512 : Shape := ⟨3, ![8, 8192, 512]⟩
abbrev S_ : Shape := ⟨0, ![]⟩
abbrev S8x8193x512 : Shape := ⟨3, ![8, 8193, 512]⟩
abbrev S8x1x512 : Shape := ⟨3, ![8, 1, 512]⟩
abbrev S8x8195x512 : Shape := ⟨3, ![8, 8195, 512]⟩
abbrev S8192 : Shape := ⟨1, ![8192]⟩
abbrev S1x8192x1 : Shape := ⟨3, ![1, 8192, 1]⟩
abbrev S8x2x512 : Shape := ⟨3, ![8, 2, 512]⟩
abbrev S8x8197x512 : Shape := ⟨3, ![8, 8197, 512]⟩
abbrev S8x4x512 : Shape := ⟨3, ![8, 4, 512]⟩
abbrev S8x8201x512 : Shape := ⟨3, ![8, 8201, 512]⟩
abbrev S8x8x512 : Shape := ⟨3, ![8, 8, 512]⟩
abbrev S8x8209x512 : Shape := ⟨3, ![8, 8209, 512]⟩
abbrev S4x512x8x8192 : Shape := ⟨4, ![4, 512, 8, 8192]⟩
abbrev S1x1x2048 : Shape := ⟨3, ![1, 1, 2048]⟩
abbrev S1x1024 : Shape := ⟨2, ![1, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 212
  | .vmem => 0
  | .smem => 0
  | _ => 0

abbrev hbmTy0_0 (i : Nat) : BufTy := match i % 128 with
  | 0 => ⟨S8x8192x1024, .f32⟩
  | 1 => ⟨S1x1024x4096, .f32⟩
  | 2 => ⟨S1x4x512x512, .f32⟩
  | 3 => ⟨S1x2048, .f32⟩
  | 4 => ⟨S1x2048x1024, .f32⟩
  | 5 => ⟨S2x1024, .f32⟩
  | 6 => ⟨S2x1024, .f32⟩
  | 7 => ⟨S1024x4096, .f32⟩
  | 8 => ⟨S4x512x512, .f32⟩
  | 9 => ⟨S2048, .f32⟩
  | 10 => ⟨S2048x1024, .f32⟩
  | 11 => ⟨S8x8192x4096, .f32⟩
  | 12 => ⟨S8x8192x2048, .f32⟩
  | 13 => ⟨S8x8192x2048, .f32⟩
  | 14 => ⟨S8x8192x4x512, .f32⟩
  | 15 => ⟨S8x8192x1x512, .f32⟩
  | 16 => ⟨S8x8192x512, .f32⟩
  | 17 => ⟨S_, .f32⟩
  | 18 => ⟨S_, .f32⟩
  | 19 => ⟨S8x8192x512, .f32⟩
  | 20 => ⟨S_, .i32⟩
  | 21 => ⟨S_, .f32⟩
  | 22 => ⟨S8x8193x512, .f32⟩
  | 23 => ⟨S8x1x512, .f32⟩
  | 24 => ⟨S8x1x512, .f32⟩
  | 25 => ⟨S8x8195x512, .f32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192, .i32⟩
  | 40 => ⟨S8192, .f32⟩
  | 41 => ⟨S8x8192x512, .f32⟩
  | 42 => ⟨S8x8192x512, .f32⟩
  | 43 => ⟨S8x8192x512, .f32⟩
  | 44 => ⟨S1x8192x1, .f32⟩
  | 45 => ⟨S8x8192x512, .f32⟩
  | 46 => ⟨S8x8192x512, .f32⟩
  | 47 => ⟨S8x8192x512, .f32⟩
  | 48 => ⟨S8x8192x1x512, .f32⟩
  | 49 => ⟨S8x8192x512, .f32⟩
  | 50 => ⟨S_, .f32⟩
  | 51 => ⟨S_, .f32⟩
  | 52 => ⟨S8x8192x512, .f32⟩
  | 53 => ⟨S_, .i32⟩
  | 54 => ⟨S_, .f32⟩
  | 55 => ⟨S8x8193x512, .f32⟩
  | 56 => ⟨S8x1x512, .f32⟩
  | 57 => ⟨S8x2x512, .f32⟩
  | 58 => ⟨S8x1x512, .f32⟩
  | 59 => ⟨S8x2x512, .f32⟩
  | 60 => ⟨S8x8197x512, .f32⟩
  | 61 => ⟨S8192, .i32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .i32⟩
  | 75 => ⟨S8192, .f32⟩
  | 76 => ⟨S8x8192x512, .f32⟩
  | 77 => ⟨S8x8192x512, .f32⟩
  | 78 => ⟨S8x8192x512, .f32⟩
  | 79 => ⟨S1x8192x1, .f32⟩
  | 80 => ⟨S8x8192x512, .f32⟩
  | 81 => ⟨S8x8192x512, .f32⟩
  | 82 => ⟨S8x8192x512, .f32⟩
  | 83 => ⟨S8x8192x1x512, .f32⟩
  | 84 => ⟨S8x8192x512, .f32⟩
  | 85 => ⟨S_, .f32⟩
  | 86 => ⟨S_, .f32⟩
  | 87 => ⟨S8x8192x512, .f32⟩
  | 88 => ⟨S_, .i32⟩
  | 89 => ⟨S_, .f32⟩
  | 90 => ⟨S8x8193x512, .f32⟩
  | 91 => ⟨S8x1x512, .f32⟩
  | 92 => ⟨S8x4x512, .f32⟩
  | 93 => ⟨S8x1x512, .f32⟩
  | 94 => ⟨S8x4x512, .f32⟩
  | 95 => ⟨S8x8201x512, .f32⟩
  | 96 => ⟨S8192, .i32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S_, .i32⟩
  | 107 => ⟨S8192, .i32⟩
  | 108 => ⟨S8192, .i32⟩
  | 109 => ⟨S8192, .i32⟩
  | 110 => ⟨S8192, .f32⟩
  | 111 => ⟨S8x8192x512, .f32⟩
  | 112 => ⟨S8x8192x512, .f32⟩
  | 113 => ⟨S8x8192x512, .f32⟩
  | 114 => ⟨S1x8192x1, .f32⟩
  | 115 => ⟨S8x8192x512, .f32⟩
  | 116 => ⟨S8x8192x512, .f32⟩
  | 117 => ⟨S8x8192x512, .f32⟩
  | 118 => ⟨S8x8192x1x512, .f32⟩
  | 119 => ⟨S8x8192x512, .f32⟩
  | 120 => ⟨S_, .f32⟩
  | 121 => ⟨S_, .f32⟩
  | 122 => ⟨S8x8192x512, .f32⟩
  | 123 => ⟨S_, .i32⟩
  | 124 => ⟨S_, .f32⟩
  | 125 => ⟨S8x8193x512, .f32⟩
  | 126 => ⟨S8x1x512, .f32⟩
  | 127 => ⟨S8x8x512, .f32⟩
  | _ => ⟨S8x8192x1024, .f32⟩

abbrev hbmTy0_1 (i : Nat) : BufTy := match i % 128 with
  | 0 => ⟨S8x1x512, .f32⟩
  | 1 => ⟨S8x8x512, .f32⟩
  | 2 => ⟨S8x8209x512, .f32⟩
  | 3 => ⟨S8192, .i32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S_, .i32⟩
  | 11 => ⟨S8192, .i32⟩
  | 12 => ⟨S8192, .i32⟩
  | 13 => ⟨S_, .i32⟩
  | 14 => ⟨S8192, .i32⟩
  | 15 => ⟨S8192, .i32⟩
  | 16 => ⟨S8192, .i32⟩
  | 17 => ⟨S8192, .f32⟩
  | 18 => ⟨S8x8192x512, .f32⟩
  | 19 => ⟨S8x8192x512, .f32⟩
  | 20 => ⟨S8x8192x512, .f32⟩
  | 21 => ⟨S1x8192x1, .f32⟩
  | 22 => ⟨S8x8192x512, .f32⟩
  | 23 => ⟨S8x8192x512, .f32⟩
  | 24 => ⟨S8x8192x512, .f32⟩
  | 25 => ⟨S8x8192x1x512, .f32⟩
  | 26 => ⟨S8x8192x1x512, .f32⟩
  | 27 => ⟨S8x8192x1x512, .f32⟩
  | 28 => ⟨S8x8192x1x512, .f32⟩
  | 29 => ⟨S8x8192x4x512, .f32⟩
  | 30 => ⟨S4x512x8x8192, .f32⟩
  | 31 => ⟨S8x8192x4x512, .f32⟩
  | 32 => ⟨S8x8192x2048, .f32⟩
  | 33 => ⟨S1x1x2048, .f32⟩
  | 34 => ⟨S8x8192x2048, .f32⟩
  | 35 => ⟨S8x8192x2048, .f32⟩
  | 36 => ⟨S8x8192x2048, .f32⟩
  | 37 => ⟨S8x8192x2048, .f32⟩
  | 38 => ⟨S_, .f32⟩
  | 39 => ⟨S8x8192x2048, .f32⟩
  | 40 => ⟨S8x8192x2048, .f32⟩
  | 41 => ⟨S_, .f32⟩
  | 42 => ⟨S8x8192x2048, .f32⟩
  | 43 => ⟨S8x8192x2048, .f32⟩
  | 44 => ⟨S8x8192x2048, .f32⟩
  | 45 => ⟨S8x8192x2048, .f32⟩
  | 46 => ⟨S8x8192x1024, .f32⟩
  | 47 => ⟨S_, .f32⟩
  | 48 => ⟨S8x8192x1024, .f32⟩
  | 49 => ⟨S8x8192x1024, .f32⟩
  | 50 => ⟨S8x8192x1024, .f32⟩
  | 51 => ⟨S1x1024, .f32⟩
  | 52 => ⟨S1024, .f32⟩
  | 53 => ⟨S1x1024, .f32⟩
  | 54 => ⟨S1024, .f32⟩
  | 55 => ⟨S_, .f32⟩
  | 56 => ⟨S8x8192, .f32⟩
  | 57 => ⟨S8x8192x1, .f32⟩
  | 58 => ⟨S_, .f32⟩
  | 59 => ⟨S8x8192x1, .f32⟩
  | 60 => ⟨S8x8192x1, .f32⟩
  | 61 => ⟨S8x8192x1024, .f32⟩
  | 62 => ⟨S8x8192x1024, .f32⟩
  | 63 => ⟨S8x8192x1024, .f32⟩
  | 64 => ⟨S_, .f32⟩
  | 65 => ⟨S8x8192, .f32⟩
  | 66 => ⟨S8x8192x1, .f32⟩
  | 67 => ⟨S_, .f32⟩
  | 68 => ⟨S8x8192x1, .f32⟩
  | 69 => ⟨S8x8192x1, .f32⟩
  | 70 => ⟨S8x8192x1024, .f32⟩
  | 71 => ⟨S8x8192x1024, .f32⟩
  | 72 => ⟨S_, .f32⟩
  | 73 => ⟨S8x8192x1, .f32⟩
  | 74 => ⟨S8x8192x1, .f32⟩
  | 75 => ⟨S8x8192x1, .f32⟩
  | 76 => ⟨S8x8192x1024, .f32⟩
  | 77 => ⟨S8x8192x1024, .f32⟩
  | 78 => ⟨S1x1x1024, .f32⟩
  | 79 => ⟨S8x8192x1024, .f32⟩
  | 80 => ⟨S8x8192x1024, .f32⟩
  | 81 => ⟨S1x1x1024, .f32⟩
  | 82 => ⟨S8x8192x1024, .f32⟩
  | 83 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_call0_cst : Ref sig .tc := ⟨.hbm, 17, rfl⟩
abbrev main_call0_call0_v0 : Ref sig .tc := ⟨.hbm, 18, rfl⟩
abbrev main_v10 : Ref sig .tc := ⟨.hbm, 19, rfl⟩
abbrev main_c : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call2_call0_cst : Ref sig .tc := ⟨.hbm, 50, rfl⟩
abbrev main_call2_call0_v0 : Ref sig .tc := ⟨.hbm, 51, rfl⟩
abbrev main_v35 : Ref sig .tc := ⟨.hbm, 52, rfl⟩
abbrev main_c_4 : Ref sig .tc := ⟨.hbm, 53, rfl⟩
abbrev main_call3_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_c_7 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call4_call0_cst : Ref sig .tc := ⟨.hbm, 85, rfl⟩
abbrev main_call4_call0_v0 : Ref sig .tc := ⟨.hbm, 86, rfl⟩
abbrev main_v62 : Ref sig .tc := ⟨.hbm, 87, rfl⟩
abbrev main_c_9 : Ref sig .tc := ⟨.hbm, 88, rfl⟩
abbrev main_call5_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_10 : Ref sig .tc := ⟨.hbm, 97, rfl⟩
abbrev main_v70 : Ref sig .tc := ⟨.hbm, 98, rfl⟩
abbrev main_v71 : Ref sig .tc := ⟨.hbm, 99, rfl⟩
abbrev main_c_11 : Ref sig .tc := ⟨.hbm, 100, rfl⟩
abbrev main_v72 : Ref sig .tc := ⟨.hbm, 101, rfl⟩
abbrev main_v73 : Ref sig .tc := ⟨.hbm, 102, rfl⟩
abbrev main_c_12 : Ref sig .tc := ⟨.hbm, 103, rfl⟩
abbrev main_v74 : Ref sig .tc := ⟨.hbm, 104, rfl⟩
abbrev main_v75 : Ref sig .tc := ⟨.hbm, 105, rfl⟩
abbrev main_c_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call6_call0_cst : Ref sig .tc := ⟨.hbm, 120, rfl⟩
abbrev main_call6_call0_v0 : Ref sig .tc := ⟨.hbm, 121, rfl⟩
abbrev main_v89 : Ref sig .tc := ⟨.hbm, 122, rfl⟩
abbrev main_c_14 : Ref sig .tc := ⟨.hbm, 123, rfl⟩
abbrev main_call7_v0 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_15 : Ref sig .tc := ⟨.hbm, 132, rfl⟩
abbrev main_v97 : Ref sig .tc := ⟨.hbm, 133, rfl⟩
abbrev main_v98 : Ref sig .tc := ⟨.hbm, 134, rfl⟩
abbrev main_c_16 : Ref sig .tc := ⟨.hbm, 135, rfl⟩
abbrev main_v99 : Ref sig .tc := ⟨.hbm, 136, rfl⟩
abbrev main_v100 : Ref sig .tc := ⟨.hbm, 137, rfl⟩
abbrev main_c_17 : Ref sig .tc := ⟨.hbm, 138, rfl⟩
abbrev main_v101 : Ref sig .tc := ⟨.hbm, 139, rfl⟩
abbrev main_v102 : Ref sig .tc := ⟨.hbm, 140, rfl⟩
abbrev main_c_18 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_call8_v0 : Ref sig .tc := ⟨.hbm, 164, rfl⟩
abbrev main_call8_v1 : Ref sig .tc := ⟨.hbm, 165, rfl⟩
abbrev main_call8_cst : Ref sig .tc := ⟨.hbm, 166, rfl⟩
abbrev main_call8_v2 : Ref sig .tc := ⟨.hbm, 167, rfl⟩
abbrev main_call8_v3 : Ref sig .tc := ⟨.hbm, 168, rfl⟩
abbrev main_call8_cst_0 : Ref sig .tc := ⟨.hbm, 169, rfl⟩
abbrev main_call8_v4 : Ref sig .tc := ⟨.hbm, 170, rfl⟩
abbrev main_call8_v5 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_19 : Ref sig .tc := ⟨.hbm, 183, rfl⟩
abbrev main_v135 : Ref sig .tc := ⟨.hbm, 184, rfl⟩
abbrev main_v136 : Ref sig .tc := ⟨.hbm, 185, rfl⟩
abbrev main_cst_20 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_21 : Ref sig .tc := ⟨.hbm, 192, rfl⟩
abbrev main_v142 : Ref sig .tc := ⟨.hbm, 193, rfl⟩
abbrev main_v143 : Ref sig .tc := ⟨.hbm, 194, rfl⟩
abbrev main_cst_22 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_23 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩

abbrev nD : Nat := 1
abbrev τ : Topo := Topo.v7x

variable {F : FTy → Type} [FloatOps F]
-- ==== InProj.lean ====
abbrev S8x8192x1024 : Shape := ⟨3, ![8, 8192, 1024]⟩
abbrev S1x1024x4096 : Shape := ⟨3, ![1, 1024, 4096]⟩
abbrev S1024x4096 : Shape := ⟨2, ![1024, 4096]⟩
abbrev S8x4x8192x256 : Shape := ⟨4, ![8, 4, 8192, 256]⟩
abbrev S1x512x1024 : Shape := ⟨3, ![1, 512, 1024]⟩
abbrev S1x4x512x256 : Shape := ⟨4, ![1, 4, 512, 256]⟩
abbrev S512x1024 : Shape := ⟨2, ![512, 1024]⟩
abbrev S512x4096 : Shape := ⟨2, ![512, 4096]⟩
abbrev S512x256 : Shape := ⟨2, ![512, 256]⟩
abbrev S1x1x512x256 : Shape := ⟨4, ![1, 1, 512, 256]⟩

abbrev nBuf : Space → Nat
  | .hbm => 8
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4096, .f32⟩
  | .hbm, ⟨2, _⟩ => ⟨S1024x4096, .f32⟩
  | .hbm, ⟨3, _⟩ => ⟨S1024x4096, .bf16⟩
  | .hbm, ⟨4, _⟩ => ⟨S8x4x8192x256, .bf16⟩
  | .hbm, ⟨5, _⟩ => ⟨S8x4x8192x256, .bf16⟩
  | .hbm, ⟨6, _⟩ => ⟨S8x4x8192x256, .bf16⟩
  | .hbm, ⟨7, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x4096, .bf16⟩
  | .local _ .vmem, ⟨3, _⟩ => ⟨S1x4x512x256, .bf16⟩
  | .local _ .vmem, ⟨4, _⟩ => ⟨S1x4x512x256, .bf16⟩
  | .local _ .vmem, ⟨5, _⟩ => ⟨S1x4x512x256, .bf16⟩
  | .local _ .vmem, ⟨6, _⟩ => ⟨S1x4x512x256, .bf16⟩
  | .local _ .vmem, ⟨7, _⟩ => ⟨S1x4x512x256, .bf16⟩
  | .local _ .vmem, ⟨8, _⟩ => ⟨S1x4x512x256, .bf16⟩
  | .local _ .vmem, ⟨9, _⟩ => ⟨S1x512x1024, .f32⟩
  | .local _ .vmem, ⟨10, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjIdeal.lean ====
variable {F : FTy → Type} [FloatOps F] [Named F]
def κ : String → Option EReal := fun
  | "q_scale" => some (((Real.sqrt 32)⁻¹ * (Real.log 2)⁻¹ : ℝ) : EReal)
  | _ => none
-- ==== InProjReferenceIdeal.lean ====
abbrev S8x8192x1024 : Shape := ⟨3, ![8, 8192, 1024]⟩
abbrev S1x1024x4096 : Shape := ⟨3, ![1, 1024, 4096]⟩
abbrev S1024x4096 : Shape := ⟨2, ![1024, 4096]⟩
abbrev S8x8192x4096 : Shape := ⟨3, ![8, 8192, 4096]⟩
abbrev S_ : Shape := ⟨0, ![]⟩
abbrev S8x8192x4x256 : Shape := ⟨4, ![8, 8192, 4, 256]⟩
abbrev S8x4x8192x256 : Shape := ⟨4, ![8, 4, 8192, 256]⟩

abbrev nBuf : Space → Nat
  | .hbm => 25
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4096, .f32⟩
  | .hbm, ⟨2, _⟩ => ⟨S1024x4096, .f32⟩
  | .hbm, ⟨3, _⟩ => ⟨S8x8192x4096, .f32⟩
  | .hbm, ⟨4, _⟩ => ⟨S8x8192x1024, .f32⟩
  | .hbm, ⟨5, _⟩ => ⟨S8x8192x1024, .f32⟩
  | .hbm, ⟨6, _⟩ => ⟨S8x8192x1024, .f32⟩
  | .hbm, ⟨7, _⟩ => ⟨S8x8192x1024, .f32⟩
  | .hbm, ⟨8, _⟩ => ⟨S_, .f32⟩
  | .hbm, ⟨9, _⟩ => ⟨S_, .f32⟩
  | .hbm, ⟨10, _⟩ => ⟨S8x8192x1024, .f32⟩
  | .hbm, ⟨11, _⟩ => ⟨S8x8192x1024, .f32⟩
  | .hbm, ⟨12, _⟩ => ⟨S_, .f32⟩
  | .hbm, ⟨13, _⟩ => ⟨S_, .f32⟩
  | .hbm, ⟨14, _⟩ => ⟨S8x8192x1024, .f32⟩
  | .hbm, ⟨15, _⟩ => ⟨S8x8192x1024, .f32⟩
  | .hbm, ⟨16, _⟩ => ⟨S8x8192x4x256, .f32⟩
  | .hbm, ⟨17, _⟩ => ⟨S8x4x8192x256, .f32⟩
  | .hbm, ⟨18, _⟩ => ⟨S8x4x8192x256, .bf16⟩
  | .hbm, ⟨19, _⟩ => ⟨S8x8192x4x256, .f32⟩
  | .hbm, ⟨20, _⟩ => ⟨S8x4x8192x256, .f32⟩
  | .hbm, ⟨21, _⟩ => ⟨S8x4x8192x256, .bf16⟩
  | .hbm, ⟨22, _⟩ => ⟨S8x8192x4x256, .f32⟩
  | .hbm, ⟨23, _⟩ => ⟨S8x4x8192x256, .f32⟩
  | .hbm, ⟨24, _⟩ => ⟨S8x4x8192x256, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== BiasTable.lean ====
abbrev S1x32x15x31 : Shape := ⟨4, ![1, 32, 15, 31]⟩
abbrev S32x15x31 : Shape := ⟨3, ![32, 15, 31]⟩
abbrev S_ : Shape := ⟨0, ![]⟩
abbrev S32x15x32 : Shape := ⟨3, ![32, 15, 32]⟩
abbrev S32x4x32 : Shape := ⟨3, ![32, 4, 32]⟩
abbrev S32x128 : Shape := ⟨2, ![32, 128]⟩
abbrev S32x1x128 : Shape := ⟨3, ![32, 1, 128]⟩
abbrev S32x12x128 : Shape := ⟨3, ![32, 12, 128]⟩
abbrev S32x12x64x128 : Shape := ⟨4, ![32, 12, 64, 128]⟩
abbrev S1x12x128 : Shape := ⟨3, ![1, 12, 128]⟩
abbrev S1x12x64x128 : Shape := ⟨4, ![1, 12, 64, 128]⟩
abbrev S64x128 : Shape := ⟨2, ![64, 128]⟩
abbrev S1x1x128 : Shape := ⟨3, ![1, 1, 128]⟩
abbrev S1x128 : Shape := ⟨2, ![1, 128]⟩
abbrev S1x1x64x128 : Shape := ⟨4, ![1, 1, 64, 128]⟩

abbrev nBuf : Space → Nat
  | .hbm => 43
  | .vmem => 4
  | .smem => 0
  | _ => 0

abbrev bufTy : (tb : Table) → Fin (tcTables nBuf tb) → BufTy
  | .hbm, ⟨0, _⟩ => ⟨S1x32x15x31, .f32⟩
  | .hbm, ⟨1, _⟩ => ⟨S32x15x31, .f32⟩
  | .hbm, ⟨2, _⟩ => ⟨S_, .i32⟩
  | .hbm, ⟨3, _⟩ => ⟨S_, .f32⟩
  | .hbm, ⟨4, _⟩ => ⟨S32x15x32, .f32⟩
  | .hbm, ⟨5, _⟩ => ⟨S32x4x32, .f32⟩
  | .hbm, ⟨6, _⟩ => ⟨S32x128, .f32⟩
  | .hbm, ⟨7, _⟩ => ⟨S32x4x32, .f32⟩
  | .hbm, ⟨8, _⟩ => ⟨S32x128, .f32⟩
  | .hbm, ⟨9, _⟩ => ⟨S32x4x32, .f32⟩
  | .hbm, ⟨10, _⟩ => ⟨S32x128, .f32⟩
  | .hbm, ⟨11, _⟩ => ⟨S32x4x32, .f32⟩
  | .hbm, ⟨12, _⟩ => ⟨S32x128, .f32⟩
  | .hbm, ⟨13, _⟩ => ⟨S32x4x32, .f32⟩
  | .hbm, ⟨14, _⟩ => ⟨S32x128, .f32⟩
  | .hbm, ⟨15, _⟩ => ⟨S32x4x32, .f32⟩
  | .hbm, ⟨16, _⟩ => ⟨S32x128, .f32⟩
  | .hbm, ⟨17, _⟩ => ⟨S32x4x32, .f32⟩
  | .hbm, ⟨18, _⟩ => ⟨S32x128, .f32⟩
  | .hbm, ⟨19, _⟩ => ⟨S32x4x32, .f32⟩
  | .hbm, ⟨20, _⟩ => ⟨S32x128, .f32⟩
  | .hbm, ⟨21, _⟩ => ⟨S32x4x32, .f32⟩
  | .hbm, ⟨22, _⟩ => ⟨S32x128, .f32⟩
  | .hbm, ⟨23, _⟩ => ⟨S32x4x32, .f32⟩
  | .hbm, ⟨24, _⟩ => ⟨S32x128, .f32⟩
  | .hbm, ⟨25, _⟩ => ⟨S32x4x32, .f32⟩
  | .hbm, ⟨26, _⟩ => ⟨S32x128, .f32⟩
  | .hbm, ⟨27, _⟩ => ⟨S32x4x32, .f32⟩
  | .hbm, ⟨28, _⟩ => ⟨S32x128, .f32⟩
  | .hbm, ⟨29, _⟩ => ⟨S32x1x128, .f32⟩
  | .hbm, ⟨30, _⟩ => ⟨S32x1x128, .f32⟩
  | .hbm, ⟨31, _⟩ => ⟨S32x1x128, .f32⟩
  | .hbm, ⟨32, _⟩ => ⟨S32x1x128, .f32⟩
  | .hbm, ⟨33, _⟩ => ⟨S32x1x128, .f32⟩
  | .hbm, ⟨34, _⟩ => ⟨S32x1x128, .f32⟩
  | .hbm, ⟨35, _⟩ => ⟨S32x1x128, .f32⟩
  | .hbm, ⟨36, _⟩ => ⟨S32x1x128, .f32⟩
  | .hbm, ⟨37, _⟩ => ⟨S32x1x128, .f32⟩
  | .hbm, ⟨38, _⟩ => ⟨S32x1x128, .f32⟩
  | .hbm, ⟨39, _⟩ => ⟨S32x1x128, .f32⟩
  | .hbm, ⟨40, _⟩ => ⟨S32x1x128, .f32⟩
  | .hbm, ⟨41, _⟩ => ⟨S32x12x128, .f32⟩
  | .hbm, ⟨42, _⟩ => ⟨S32x12x64x128, .f32⟩
  | .local _ .vmem, ⟨0, _⟩ => ⟨S1x12x128, .f32⟩
  | .local _ .vmem, ⟨1, _⟩ => ⟨S1x12x128, .f32⟩
  | .local _ .vmem, ⟨2, _⟩ => ⟨S1x12x64x128, .f32⟩
  | .local _ .vmem, ⟨3, _⟩ => ⟨S1x12x64x128, .f32⟩
  | _, _ => ⟨S1x32x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x12x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasTableIdeal.lean ====
variable {F : FTy → Type} [FloatOps F] [Named F]
def κ : String → Option EReal := fun
  | "log2_e" => some (((Real.log 2)⁻¹ : ℝ) : EReal)
  | "mask" => some ⊥
  | _ => none
-- ==== BiasReferenceIdeal.lean ====
abbrev S1x32x15x31 : Shape := ⟨4, ![1, 32, 15, 31]⟩
abbrev S32x15x31 : Shape := ⟨3, ![32, 15, 31]⟩
abbrev S64 : Shape := ⟨1, ![64]⟩
abbrev S_ : Shape := ⟨0, ![]⟩
abbrev S64x1 : Shape := ⟨2, ![64, 1]⟩
abbrev S32 : Shape := ⟨1, ![32]⟩
abbrev S1x32 : Shape := ⟨2, ![1, 32]⟩
abbrev S64x32 : Shape := ⟨2, ![64, 32]⟩
abbrev S12 : Shape := ⟨1, ![12]⟩
abbrev S12x1 : Shape := ⟨2, ![12, 1]⟩
abbrev S4 : Shape := ⟨1, ![4]⟩
abbrev S1x4 : Shape := ⟨2, ![1, 4]⟩
abbrev S12x4 : Shape := ⟨2, ![12, 4]⟩
abbrev S12x4x1 : Shape := ⟨3, ![12, 4, 1]⟩
abbrev S32x12x4x31 : Shape := ⟨4, ![32, 12, 4, 31]⟩
abbrev S64x32x1 : Shape := ⟨3, ![64, 32, 1]⟩
abbrev S32x12x4x64x32 : Shape := ⟨5, ![32, 12, 4, 64, 32]⟩
abbrev S32x12x64x4x32 : Shape := ⟨5, ![32, 12, 64, 4, 32]⟩
abbrev S32x12x64x128 : Shape := ⟨4, ![32, 12, 64, 128]⟩

abbrev nBuf : Space → Nat
  | .hbm => 73
  | .vmem => 0
  | .smem => 0
  | _ => 0

abbrev bufTy : (tb : Table) → Fin (tcTables nBuf tb) → BufTy
  | .hbm, ⟨0, _⟩ => ⟨S1x32x15x31, .f32⟩
  | .hbm, ⟨1, _⟩ => ⟨S32x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S32, .i32⟩
  | .hbm, ⟨30, _⟩ => ⟨S1x32, .i32⟩
  | .hbm, ⟨31, _⟩ => ⟨S64x1, .i32⟩
  | .hbm, ⟨32, _⟩ => ⟨S64x32, .i32⟩
  | .hbm, ⟨33, _⟩ => ⟨S64x32, .i32⟩
  | .hbm, ⟨34, _⟩ => ⟨S64x32, .i32⟩
  | .hbm, ⟨35, _⟩ => ⟨S64x1, .i32⟩
  | .hbm, ⟨36, _⟩ => ⟨S64x32, .i32⟩
  | .hbm, ⟨37, _⟩ => ⟨S64x32, .i1⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S64x32, .i32⟩
  | .hbm, ⟨43, _⟩ => ⟨S64x32, .i1⟩
  | .hbm, ⟨44, _⟩ => ⟨S64x32, .i1⟩
  | .hbm, ⟨45, _⟩ => ⟨S64x1, .i32⟩
  | .hbm, ⟨46, _⟩ => ⟨S64x32, .i32⟩
  | .hbm, ⟨47, _⟩ => ⟨S64x32, .i32⟩
  | .hbm, ⟨48, _⟩ => ⟨S_, .i32⟩
  | .hbm, ⟨49, _⟩ => ⟨S64x32, .i32⟩
  | .hbm, ⟨50, _⟩ => ⟨S64x32, .i32⟩
  | .hbm, ⟨51, _⟩ => ⟨S12, .i32⟩
  | .hbm, ⟨52, _⟩ => ⟨S12x1, .i32⟩
  | .hbm, ⟨53, _⟩ => ⟨S4, .i32⟩
  | .hbm, ⟨54, _⟩ => ⟨S1x4, .i32⟩
  | .hbm, ⟨55, _⟩ => ⟨S12x4, .i32⟩
  | .hbm, ⟨56, _⟩ => ⟨S12x4, .i32⟩
  | .hbm, ⟨57, _⟩ => ⟨S12x4, .i32⟩
  | .hbm, ⟨58, _⟩ => ⟨S12x4x1, .i32⟩
  | .hbm, ⟨59, _⟩ => ⟨S32x12x4x31, .f32⟩
  | .hbm, ⟨60, _⟩ => ⟨S64x32x1, .i32⟩
  | .hbm, ⟨61, _⟩ => ⟨S32x12x4x64x32, .f32⟩
  | .hbm, ⟨62, _⟩ => ⟨S_, .f32⟩
  | .hbm, ⟨63, _⟩ => ⟨S_, .f32⟩
  | .hbm, ⟨64, _⟩ => ⟨S32x12x4x64x32, .f32⟩
  | .hbm, ⟨65, _⟩ => ⟨S32x12x4x64x32, .f32⟩
  | .hbm, ⟨66, _⟩ => ⟨S_, .f32⟩
  | .hbm, ⟨67, _⟩ => ⟨S_, .f32⟩
  | .hbm, ⟨68, _⟩ => ⟨S32x12x4x64x32, .i1⟩
  | .hbm, ⟨69, _⟩ => ⟨S32x12x4x64x32, .f32⟩
  | .hbm, ⟨70, _⟩ => ⟨S32x12x4x64x32, .f32⟩
  | .hbm, ⟨71, _⟩ => ⟨S32x12x64x4x32, .f32⟩
  | .hbm, ⟨72, _⟩ => ⟨S32x12x64x128, .f32⟩
  | _, _ => ⟨S1x32x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_c_4 : Ref sig .tc := ⟨.hbm, 20, rfl⟩
abbrev main_c_5 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_c_6 : Ref sig .tc := ⟨.hbm, 25, rfl⟩
abbrev main_call2_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_v0 : Ref sig .tc := ⟨.hbm, 58, rfl⟩
abbrev main_v39 : Ref sig .tc := ⟨.hbm, 59, rfl⟩
abbrev main_call4_v0 : Ref sig .tc := ⟨.hbm, 60, rfl⟩
abbrev main_v40 : Ref sig .tc := ⟨.hbm, 61, rfl⟩
abbrev main_cst : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== Proof.Pool.Run.lean ====
module

public import proofs.«01_k».proof.Proof.Gen.KernelIdeal.Frame

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- Both regions run one after the other: when the run ends, every buffer that outlives a region holds what the
    second region's exit valuation says, and all counters are back at zero. -/
theorem run_exit : θ_run defs (onTc (τ := τ) (main (F := F))) ⟨m, fun _ => 0, ρ⟩ (fun r =>
      (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun _ h hz => ⟨h, funext fun g => hz g (.inr (no_unscoped g.2))⟩)

/-- The run of the two calls: the result array is what the second region's write-backs make of it, the argument arrays
    are unchanged, and all counters are back at zero. -/
theorem run_result : θ_run defs (onTc (τ := τ) (main (F := F))) ⟨m, fun _ => 0, ρ⟩ (fun r => (∀ c : Dev nD,
      r.2.mem ((c.tc : Thread nD τ).loc main_v13) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
    ⟨(h.1 c _ (mem_uc main_v13 (by decide))).trans (W4_arr m ρ c 7),
     (h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c),
     (h.1 c _ (mem_uc main_arg5 (by decide))).trans (W4_main_arg5 m ρ c),
     (h.1 c _ (mem_uc main_arg6 (by decide))).trans (W4_main_arg6 m ρ c)⟩, h.2⟩) (run_exit m ρ)

/-- The run leaves the argument arrays unchanged and all counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => (h.1 c).2, h.2⟩) (run_result m ρ)

end Cert.KernelIdeal.Pool

end
-- ==== Proof.Pool.Fold.lean ====
/-
  The first region: the array of folded weights. Column `1024 g + e` of it, `e < 512`, is group `g`'s input columns times that
  group's matrix, scaled column by column; column `1024 g + 512 + e` is the gate's column `e` of the group.
-/
module

public import proofs.«01_k».proof.Proof.Gen.KernelIdeal.Frame
public import Idealize.ShloMosaic.Lib.Pipeline.ValueKit

@[expose] public section

set_option maxRecDepth 16384

noncomputable section

namespace Cert.KernelIdeal.Pool

open Idealize.ShloMosaic Idealize.ShloMosaic.TcCoe Idealize.SL.Sem
open Idealize.ShloMosaic.Pipeline (Dat)
open Cert.KernelIdeal Cert.KernelIdeal.Gen

section Function

variable (wi : FVec Ideal S1024x4096 .f32) (G : FVec Ideal S4x512x512 .f32) (sc : FVec Ideal S1x2048 .f32)

/-- Column `e` of group `g`, folded. -/
def foldE (k : Fin 1024) (g : Fin 4) (e : Fin 512) : EReal :=
  (∑ d : Fin 512, wi (ix2 k ⟨512 * g.val + d.val, by omega⟩) * G (ix3 g d e)) * sc (ix2 0 ⟨512 * g.val + e.val, by omega⟩)

/-- Column `e` of the gate of group `g`. -/
def gateE (k : Fin 1024) (g : Fin 4) (e : Fin 512) : EReal := wi (ix2 k ⟨2048 + (512 * g.val + e.val), by omega⟩)

/-- The array of folded weights. -/
def folded : FVec Ideal S1024x4096 .bf16 := fun i =>
  if h : (i 1).val % 1024 < 512 then
    foldE wi G sc ⟨(i 0).val, (i 0).isLt⟩ ⟨(i 1).val / 1024, by have : (i 1).val < 4096 := (i 1).isLt; omega⟩ ⟨(i 1).val % 1024, h⟩
  else gateE wi ⟨(i 0).val, (i 0).isLt⟩ ⟨(i 1).val / 1024, by have : (i 1).val < 4096 := (i 1).isLt; omega⟩
    ⟨(i 1).val % 1024 - 512, by omega⟩

theorem folded_low (i : S1024x4096.Idx) (k : Fin 1024) (g : Fin 4) (e : Fin 512) (h0 : (i 0).val = k.val)
    (h1 : (i 1).val = 1024 * g.val + e.val) : folded wi G sc i = foldE wi G sc k g e := by
  have e1 : (i 1).val % 1024 = e.val := by omega
  have e2 : (i 1).val / 1024 = g.val := by omega
  unfold folded
  rw [dif_pos (by omega)]
  congr 1 <;> exact Fin.ext (by assumption)

theorem folded_high (i : S1024x4096.Idx) (k : Fin 1024) (g : Fin 4) (e : Fin 512) (h0 : (i 0).val = k.val)
    (h1 : (i 1).val = 1024 * g.val + (512 + e.val)) : folded wi G sc i = gateE wi k g e := by
  have e1 : (i 1).val % 1024 - 512 = e.val := by omega
  have e2 : (i 1).val / 1024 = g.val := by omega
  unfold folded
  rw [dif_neg (by omega)]
  congr 1 <;> exact Fin.ext (by assumption)

end Function

variable (V : (c : Dev nD) → (b : Ref sig .tc) → Buf (Elt Ideal) ((c : Thread nD τ).loc b))

/-- Where each window's block lies at every grid point. -/
theorem idx0 : ∀ t : Fin cfg0.N, win0_0.index t = ![0, t.val] ∧ win0_1.index t = ![0, 4 + t.val] ∧ win0_2.index t = ![t.val, 0, 0]
    ∧ win0_3.index t = ![0, t.val] ∧ win0_4.index t = ![0, t.val] ∧ t.val < 4 :=
  (by decide +kernel : ∀ t : Fin grid0.N, _)

/-- The first region's result array. -/
theorem fold_final (c : Dev nD) : (dat0 V c).arrAt 4 cfg0.N
    = folded (V c main_v2) (V c main_v3) (V c main_v1) := by
  refine (dat0 V c).arrAt_eq_of_covers 4 _ (by decide +kernel) fun t _ y => ?_
  have ht : t.val < 4 := (idx0 t).2.2.2.2.2
  blk_simp
  rw [after0_4]; frame_out
  canon_tiles x hx
  · refine Eq.trans ?_ (folded_high _ _ _ _ ⟨(x 0).val, x0_lt⟩ ⟨t.val, ht⟩ ⟨(x 1).val, x1_lt⟩ ?_ ?_).symm
    · unfold gateE
      pointwise [k0_pay2]
      blk_point [iblk0, idx0 t]
    · blk_simp [idx0 t]; exact hx0
    · blk_simp [idx0 t]; erw [hx1]; dsimp only; omega
  · refine Eq.trans ?_ (folded_low _ _ _ _ ⟨(x 0).val, x0_lt⟩ ⟨t.val, ht⟩ ⟨(x 1).val, x1_lt⟩ ?_ ?_).symm
    · unfold foldE
      pointwise [k0_pay1]
      blk_point [iblk0, idx0 t]
    · blk_simp [idx0 t]; exact hx0
    · blk_simp [idx0 t]; erw [hx1]; dsimp only; omega

end Cert.KernelIdeal.Pool

end
-- ==== Proof.Pool.Body.lean ====
/-
  The pool layer's block, read element by element. Each printed payload of the body is read at an index of variables; together
  they say what one block of the result is as a function of the extended rows `X`, the four column blocks of the
  folded weights, the four row blocks of the output weights and the layer norm's rows.
-/
module

public import proofs.«01_k».proof.Proof.Gen.KernelIdeal.Skeleton
public import Idealize.ShloMosaic.Lib.Pointwise

@[expose] public section

set_option maxRecDepth 16384

noncomputable section

namespace Cert.KernelIdeal.Pool

open Idealize.ShloMosaic Idealize.ShloMosaic.TcCoe Idealize.SL.Sem
open Cert.KernelIdeal Cert.KernelIdeal.Gen

/-- The number of rows inside the sequence in a window of half-width `h` around row `R` of row block `a`, as the body
    computes it on 32-bit words. -/
def cntE (a h : BitVec 32) (R : Fin 1024) : EReal :=
  FloatOps.sitofp (F := Ideal) FTy.f32
    (IntOp.subi
      (IntOp.minsi (IntOp.addi (IntOp.addi (Scalar.addi (Scalar.muli a 1024#32) 0#32) (BitVec.ofNat 32 R.val)) h) 8192#32)
      (IntOp.maxsi (IntOp.subi (IntOp.addi (Scalar.addi (Scalar.muli a 1024#32) 0#32) (BitVec.ofNat 32 R.val)) h) 0#32))

/-- The gate's `g / (1 + exp (0 - g))`. -/
def siluE (g : EReal) : EReal := Ideal.div g (1 + Ideal.exp (0 - g))

/-- One mixed element: windowed sum times the reciprocal count, minus the row itself, times the gate. -/
def mixE (a h : BitVec 32) (R : Fin 1024) (s u g : EReal) : EReal := (s * Ideal.div 1 (cntE a h R) - u) * siluE g

/-- Row `p` of the extended rows times column `l` of a group's projected columns. -/
def uE (X : FVec Ideal S1040x1024 .bf16) (W : FVec Ideal S1024x1024 .bf16) (p : ℕ) (l : Fin 512) : EReal :=
  if h : p < 1040 then ∑ d : Fin 1024, X (ix2 ⟨p, h⟩ d) * W (ix2 d ⟨l.val, by omega⟩) else 0

/-- The gate's column `l` at row `R` of the block. -/
def gE (X : FVec Ideal S1040x1024 .bf16) (W : FVec Ideal S1024x1024 .bf16) (R : Fin 1024) (l : Fin 512) : EReal :=
  ∑ d : Fin 1024, X (ix2 ⟨8 + R.val, by omega⟩ d) * W (ix2 d ⟨512 + l.val, by omega⟩)

section Projections

variable (X : FVec Ideal S1040x1024 .bf16) (W : FVec Ideal S1024x1024 .bf16)

theorem pay4_at (p : Fin 1040) (l : Fin 512) : k1_pay4 (F := Ideal) X W (ix2 p l) = uE X W p.val l := by
  simp only [uE, dif_pos p.isLt]; pointwise! [k1_pay4, k1_pay3]
theorem pay7_at (p : Fin 1040) (l : Fin 512) : k1_pay7 (F := Ideal) X W (ix2 p l) = uE X W p.val l := by
  simp only [uE, dif_pos p.isLt]; pointwise! [k1_pay7, k1_pay6]
theorem pay12_at (p : Fin 1040) (l : Fin 512) : k1_pay12 (F := Ideal) X W (ix2 p l) = uE X W p.val l := by
  simp only [uE, dif_pos p.isLt]; pointwise! [k1_pay12, k1_pay11]
theorem pay17_at (p : Fin 1040) (l : Fin 512) : k1_pay17 (F := Ideal) X W (ix2 p l) = uE X W p.val l := by
  simp only [uE, dif_pos p.isLt]; pointwise! [k1_pay17, k1_pay16]
theorem pay5_at (R : Fin 1024) (l : Fin 512) : k1_pay5 (F := Ideal) X W (ix2 R l) = gE X W R l := by
  simp only [gE]; pointwise! [k1_pay5, k1_pay3]
theorem pay8_at (R : Fin 1024) (l : Fin 512) : k1_pay8 (F := Ideal) X W (ix2 R l) = gE X W R l := by
  simp only [gE]; pointwise! [k1_pay8, k1_pay6]
theorem pay13_at (R : Fin 1024) (l : Fin 512) : k1_pay13 (F := Ideal) X W (ix2 R l) = gE X W R l := by
  simp only [gE]; pointwise! [k1_pay13, k1_pay11]
theorem pay18_at (R : Fin 1024) (l : Fin 512) : k1_pay18 (F := Ideal) X W (ix2 R l) = gE X W R l := by
  simp only [gE]; pointwise! [k1_pay18, k1_pay16]

end Projections

section Mixing

variable (a : BitVec 32) (u : FVec Ideal S1040x512 .f32) (gt : FVec Ideal S1024x512 .f32)
  (w : FVec Ideal S512x1024 .bf16) (acc : FVec Ideal S1024x1024 .f32) (v : ℕ → Fin 512 → EReal)
  (hu : ∀ (p : Fin 1040) (l : Fin 512), u (ix2 p l) = v p.val l)

include hu

theorem pay10_at (X : FVec Ideal S1040x1024 .bf16) (W : FVec Ideal S1024x1024 .bf16)
    (hX : ∀ (p : Fin 1040) (l : Fin 512), k1_pay4 (F := Ideal) X W (ix2 p l) = v p.val l) (R n : Fin 1024) :
    k1_pay10 a u gt (k1_pay9 X W) w (ix2 R n)
      = ∑ l, mixE a 1#32 R (∑ j ∈ Finset.range 2, v (7 + R.val + j) l) (v (8 + R.val) l) (gt (ix2 R l)) * w (ix2 l n) := by
  have hS : ∀ x, v (8 + R.val) x + v ((8 + R.val + 1040 - 1) % 1040) x = ∑ j ∈ Finset.range 2, v (7 + R.val + j) x := fun x => by
    rw [show (8 + R.val + 1040 - 1) % 1040 = 7 + R.val by omega, show 8 + R.val = 7 + R.val + 1 by omega]
    simp only [Finset.sum_range_succ, Finset.sum_range_zero, Nat.add_zero]; abel
  simp only [mixE, siluE, cntE]
  pointwise [k1_pay10, k1_pay9, hu, hX, hS]

theorem pay15_at (R n : Fin 1024) :
    k1_pay15 a u gt acc (k1_pay14 u) 2#32 w (ix2 R n)
      = acc (ix2 R n) + ∑ l, mixE a 2#32 R (∑ j ∈ Finset.range 4, v (6 + R.val + j) l) (v (8 + R.val) l) (gt (ix2 R l)) * w (ix2 l n) := by
  have hS : ∀ x, v ((8 + R.val + 1040 - 2) % 1040) x + v (((8 + R.val + 1040 - 2) % 1040 + 1040 - 1039) % 1040) x
      + (v (8 + R.val) x + v ((8 + R.val + 1040 - 1039) % 1040) x) = ∑ j ∈ Finset.range 4, v (6 + R.val + j) x := fun x => by
    rw [show (8 + R.val + 1040 - 2) % 1040 = 6 + R.val by omega, show (6 + R.val + 1040 - 1039) % 1040 = 6 + R.val + 1 by omega,
      show (8 + R.val + 1040 - 1039) % 1040 = 6 + R.val + 3 by omega, show 8 + R.val = 6 + R.val + 2 by omega]
    simp only [Finset.sum_range_succ, Finset.sum_range_zero, Nat.add_zero]; abel
  simp only [mixE, siluE, cntE]
  pointwise [k1_pay15, k1_pay14, hu, hS]

/-- Two doublings of a forward sum: four consecutive rows, as long as they do not run past the last row. -/
theorem pay20_at (p : Fin 1040) (l : Fin 512) (hp : p.val + 4 ≤ 1040) :
    k1_pay20 u (ix2 p l) = ∑ j ∈ Finset.range 4, v (p.val + j) l := by
  pointwise [k1_pay20, hu]
  rw [show (p.val + 1040 - 1038) % 1040 = p.val + 2 by omega, show (p.val + 1040 - 1039) % 1040 = p.val + 1 by omega,
    show (p.val + 2 + 1040 - 1039) % 1040 = p.val + 3 by omega]
  simp only [Finset.sum_range_succ, Finset.sum_range_zero, Nat.add_zero]; abel

theorem pay19_at (R n : Fin 1024) :
    k1_pay19 a u gt acc 1039#32 w (ix2 R n)
      = acc (ix2 R n) + ∑ l, mixE a 4#32 R (∑ j ∈ Finset.range 8, v (4 + R.val + j) l) (v (8 + R.val) l) (gt (ix2 R l)) * w (ix2 l n) := by
  have h1 : (8 + R.val + 1040 - 4) % 1040 = 4 + R.val := by omega
  have h2 : (4 + R.val + 1040 - 1038) % 1040 = 6 + R.val := by omega
  have h3 : (4 + R.val + 1040 - 1039) % 1040 = 5 + R.val := by omega
  have h4 : (6 + R.val + 1040 - 1039) % 1040 = 7 + R.val := by omega
  have h5 : (8 + R.val + 1040 - 1038) % 1040 = 10 + R.val := by omega
  have h6 : (8 + R.val + 1040 - 1039) % 1040 = 9 + R.val := by omega
  have h7 : (10 + R.val + 1040 - 1039) % 1040 = 11 + R.val := by omega
  have hS : ∀ x, v (4 + R.val) x + v (5 + R.val) x + (v (6 + R.val) x + v (7 + R.val) x)
      + (v (8 + R.val) x + v (9 + R.val) x + (v (10 + R.val) x + v (11 + R.val) x)) = ∑ j ∈ Finset.range 8, v (4 + R.val + j) x := fun x => by
    simp only [Finset.sum_range_succ, Finset.sum_range_zero, Nat.add_right_comm 4, Nat.reduceAdd]; abel
  simp only [mixE, siluE, cntE]
  pointwise [k1_pay19, hu, h1, h2, h3, h4, h5, h6, h7, hS]

theorem pay21_at (R : Fin 1024) (l : Fin 512) :
    k1_pay21 a u gt (k1_pay20 u) (ix2 R l)
      = mixE a 8#32 R (∑ j ∈ Finset.range 16, v (R.val + j) l) (v (8 + R.val) l) (gt (ix2 R l)) := by
  have h20 := fun (p : Fin 1040) hp => pay20_at u v hu p l hp
  generalize k1_pay20 u = s at h20
  have h1 : (8 + R.val + 1040 - 8) % 1040 = R.val := by omega
  have h2 : (R.val + 1040 - 1036) % 1040 = R.val + 4 := by omega
  have h3 : (8 + R.val + 1040 - 1036) % 1040 = R.val + 12 := by omega
  simp only [mixE, siluE, cntE]
  pointwise [k1_pay21, hu, h1, h2, h3]
  rw [h20 _ (by simp only; omega), h20 _ (by simp only; omega), h20 _ (by simp only; omega), h20 _ (by simp only; omega)]
  have hS : (∑ j ∈ Finset.range 4, v (R.val + j) l + ∑ j ∈ Finset.range 4, v (R.val + 4 + j) l
      + (∑ j ∈ Finset.range 4, v (8 + R.val + j) l + ∑ j ∈ Finset.range 4, v (R.val + 12 + j) l))
      = ∑ j ∈ Finset.range 16, v (R.val + j) l := by
    rw [Nat.add_comm 8]
    simp only [Finset.sum_range_succ, Finset.sum_range_zero, Nat.add_assoc, Nat.reduceAdd]; abel
  simp only [hS]

end Mixing

/-- Layer norm of the row `z`, element `n`, with scale `g` and shift `b` there. -/
def lnE (z : Fin 1024 → EReal) (g b : EReal) (n : Fin 1024) : EReal :=
  (z n - Ideal.div (∑ k, z k) (Ideal.ofBits .f32 0x44800000#32))
      * Ideal.rsqrt (Ideal.div (∑ k, (z k - Ideal.div (∑ k, z k) (Ideal.ofBits .f32 0x44800000#32))
            * (z k - Ideal.div (∑ k, z k) (Ideal.ofBits .f32 0x44800000#32))) (Ideal.ofBits .f32 0x44800000#32)
          + Ideal.ofBits .f32 0x3727C5AC#32) * g + b

/-- The row the layer norm is applied to: the input row scaled, plus the mixed row. -/
def zE (x h : EReal) : EReal := Ideal.ofBits .f32 0x3FB504F3#32 * x + h

section Rows

variable (a : BitVec 32) (u : FVec Ideal S1040x512 .f32) (gt : FVec Ideal S1024x512 .f32) (s : FVec Ideal S1040x512 .f32)
  (T : FVec Ideal S1024x1024 .f32) (A : FVec Ideal S1024x512 .bf16) (w : FVec Ideal S512x1024 .bf16)
  (x : FVec Ideal S1x256x1024 .f32) (g b : FVec Ideal S1x1024 .f32) (r : Fin 256) (n : Fin 1024)

theorem rows0_at : k1_pay25 (k1_pay23 a u gt T s w) (k1_pay24 x) (FloatOps.ofBits FTy.f32 0x3FB504F3#32) g b (ix3 0 r n)
    = lnE (fun n' => zE (x (ix3 0 r n')) (T (ix2 ⟨r.val, by omega⟩ n')
        + ∑ l, k1_pay21 (F := Ideal) a u gt s (ix2 ⟨r.val, by omega⟩ l) * w (ix2 l n'))) (g (ix2 0 n)) (b (ix2 0 n)) n := by
  simp only [lnE, zE]
  pointwise! [k1_pay25, k1_pay23, k1_pay24, k1_pay22]

theorem rows1_at : k1_pay27 (k1_pay26 T A (k1_pay22 w) x) g b (ix3 0 r n)
    = lnE (fun n' => zE (x (ix3 0 r n')) (T (ix2 ⟨256 + r.val, by omega⟩ n')
        + ∑ l, A (ix2 ⟨256 + r.val, by omega⟩ l) * w (ix2 l n'))) (g (ix2 0 n)) (b (ix2 0 n)) n := by
  simp only [lnE, zE]
  pointwise! [k1_pay27, k1_pay26, k1_pay22]

theorem rows2_at : k1_pay31 (k1_pay28 T A (k1_pay22 w) x) (k1_pay29 g) (k1_pay30 b) (ix3 0 r n)
    = lnE (fun n' => zE (x (ix3 0 r n')) (T (ix2 ⟨512 + r.val, by omega⟩ n')
        + ∑ l, A (ix2 ⟨512 + r.val, by omega⟩ l) * w (ix2 l n'))) (g (ix2 0 n)) (b (ix2 0 n)) n := by
  simp only [lnE, zE]
  pointwise! [k1_pay31, k1_pay28, k1_pay29, k1_pay30, k1_pay22]

theorem rows3_at : k1_pay1 (k1_pay32 T A (k1_pay22 w) x) (k1_pay33 g) (k1_pay34 b) (k1_pay35 T A (k1_pay22 w) x) (ix3 0 r n)
    = lnE (fun n' => zE (x (ix3 0 r n')) (T (ix2 ⟨768 + r.val, by omega⟩ n')
        + ∑ l, A (ix2 ⟨768 + r.val, by omega⟩ l) * w (ix2 l n'))) (g (ix2 0 n)) (b (ix2 0 n)) n := by
  simp only [lnE, zE]
  pointwise! [k1_pay1, k1_pay32, k1_pay33, k1_pay34, k1_pay35, k1_pay22]

end Rows

end Cert.KernelIdeal.Pool

end
-- ==== Proof.Pool.Block.lean ====
/-
  One block of the pool layer's result: the four row chunks the body stores are one function of the extended rows, the folded
  weights, the output weights and the layer norm's rows.
-/
module

public import proofs.«01_k».proof.Proof.Pool.Body

@[expose] public section

set_option maxRecDepth 16384

noncomputable section

namespace Cert.KernelIdeal.Pool

open Idealize.ShloMosaic Idealize.ShloMosaic.TcCoe Idealize.SL.Sem
open Cert.KernelIdeal Cert.KernelIdeal.Gen

variable (a : BitVec 32) (X : FVec Ideal S1040x1024 .bf16) (W0 W1 W2 W3 : FVec Ideal S1024x1024 .bf16)
  (o0 o1 o2 o3 : FVec Ideal S512x1024 .bf16)

/-- A group's mixed element at row `R` of the block: half-width `h`, which is at most 8. -/
def groupE (h : ℕ) (W : FVec Ideal S1024x1024 .bf16) (R : Fin 1024) (l : Fin 512) : EReal :=
  mixE a (BitVec.ofNat 32 h) R (∑ j ∈ Finset.range (2 * h), uE X W (8 - h + R.val + j) l) (uE X W (8 + R.val) l) (gE X W R l)

/-- The four groups' mixed rows times their rows of the output weights. -/
def hE (R n : Fin 1024) : EReal :=
  ∑ l, groupE a X 1 W0 R l * o0 (ix2 l n) + ∑ l, groupE a X 2 W1 R l * o1 (ix2 l n) + ∑ l, groupE a X 4 W2 R l * o2 (ix2 l n)
    + ∑ l, groupE a X 8 W3 R l * o3 (ix2 l n)

/-- The first three groups, accumulated over the whole block. -/
theorem acc_at (R n : Fin 1024) :
    k1_pay19 (F := Ideal) a (k1_pay12 X W2) (k1_pay13 X W2)
        (k1_pay15 a (k1_pay7 X W1) (k1_pay8 X W1) (k1_pay10 a (k1_pay4 X W0) (k1_pay5 X W0) (k1_pay9 X W0) o0)
          (k1_pay14 (k1_pay7 X W1)) 2#32 o1) 1039#32 o2 (ix2 R n)
      = ∑ l, groupE a X 1 W0 R l * o0 (ix2 l n) + ∑ l, groupE a X 2 W1 R l * o1 (ix2 l n) + ∑ l, groupE a X 4 W2 R l * o2 (ix2 l n) := by
  rw [pay19_at a _ _ _ _ (uE X W2) (pay12_at X W2), pay15_at a _ _ _ _ (uE X W1) (pay7_at X W1),
    pay10_at a _ _ _ (uE X W0) (pay4_at X W0) X W0 (pay4_at X W0)]
  simp only [pay5_at, pay8_at, pay13_at]
  rfl

/-- The last group's mixed rows. -/
theorem last_at (R : Fin 1024) (l : Fin 512) :
    k1_pay21 (F := Ideal) a (k1_pay17 X W3) (k1_pay18 X W3) (k1_pay20 (k1_pay17 X W3)) (ix2 R l) = groupE a X 8 W3 R l := by
  rw [pay21_at a _ _ (uE X W3) (pay17_at X W3), pay18_at, groupE]
  simp only [Nat.sub_self, Nat.zero_add]

end Cert.KernelIdeal.Pool

end
-- ==== Proof.Pool.Array.lean ====
/-
  The pooled layer over whole arrays, as the second region computes it: rows of the input extended by 8 rows of zeros on each
  side, projected by the folded weights, summed over each group's window, normalised. A block's element is the array's.
-/
module

public import proofs.«01_k».proof.Proof.Pool.Block
public import Idealize.ShloMosaic.Lib.Affine

@[expose] public section

set_option maxRecDepth 16384

noncomputable section

namespace Cert.KernelIdeal.Pool

open Idealize.ShloMosaic Idealize.ShloMosaic.TcCoe Idealize.SL.Sem
open Cert.KernelIdeal Cert.KernelIdeal.Gen

/-- The rows a window of half-width `h` at row `t` meets. -/
def cntN (t h : ℕ) : ℕ := min (t + h) 8192 - (t - h)

/-- The count as the block computes it, in words. -/
theorem cntE_eq (q h : ℕ) (R : Fin 1024) (hq : q < 8) (hh : h ≤ 8) :
    cntE (BitVec.ofNat 32 q) (BitVec.ofNat 32 h) R = ((cntN (1024 * q + R.val) h : ℕ) : ℝ) := by
  have hR := R.isLt
  have hc : cntN (1024 * q + R.val) h ≤ 8192 := by unfold cntN; omega
  have hI := Affine.subi
    (Affine.minsi
      (Affine.addi
        (Affine.addi
          (Affine.addi (Affine.muli (Affine.ofNat q ⟨rfl, by omega⟩) (Affine.ofNat 1024 ⟨rfl, by omega⟩) ⟨rfl, by omega, by omega⟩)
            (Affine.ofNat 0 ⟨rfl, by omega⟩) ⟨rfl, by omega, by omega⟩)
          (Affine.ofNat R.val ⟨rfl, by omega⟩) ⟨rfl, by omega, by omega⟩)
        (Affine.ofNat h ⟨rfl, by omega⟩) ⟨rfl, by omega, by omega⟩)
      (Affine.ofNat 8192 ⟨rfl, by omega⟩) rfl)
    (Affine.maxsi
      (Affine.subi
        (Affine.addi
          (Affine.addi (Affine.muli (Affine.ofNat q ⟨rfl, by omega⟩) (Affine.ofNat 1024 ⟨rfl, by omega⟩) ⟨rfl, by omega, by omega⟩)
            (Affine.ofNat 0 ⟨rfl, by omega⟩) ⟨rfl, by omega, by omega⟩)
          (Affine.ofNat R.val ⟨rfl, by omega⟩) ⟨rfl, by omega, by omega⟩)
        (Affine.ofNat h ⟨rfl, by omega⟩) ⟨rfl, by omega, by omega⟩)
      (Affine.ofNat 0 ⟨rfl, by omega⟩) rfl)
    (e := ((cntN (1024 * q + R.val) h : ℕ) : ℤ)) ⟨by unfold cntN; omega, by omega, by omega⟩
  unfold Affine.IsInt at hI
  unfold cntE
  show (((BitVec.toInt _ : ℤ) : ℝ) : EReal) = _
  exact (congrArg (fun z : ℤ => ((z : ℝ) : EReal)) hI).trans (by simp)

section Array

variable (x : FVec Ideal S8x8192x1024 .f32) (W : FVec Ideal S1024x4096 .bf16) (wo : FVec Ideal S2048x1024 .bf16)
  (g b : FVec Ideal S1x1024 .f32)

/-- Row `P` of the extended input: 8 rows of zeros, the 8192 rows, 8 rows of zeros. -/
def xz (B : Fin 8) (P : ℕ) (d : Fin 1024) : EReal := if h : 8 ≤ P ∧ P < 8200 then x (ix3 B ⟨P - 8, by omega⟩ d) else 0

/-- Group `k`'s projected column `l` of the extended row `P`. -/
def uA (B : Fin 8) (P : ℕ) (k : Fin 4) (l : Fin 512) : EReal :=
  ∑ d : Fin 1024, xz x B P d * W (ix2 d ⟨1024 * k.val + l.val, by omega⟩)

/-- Group `k`'s gate column `l` of row `t`. -/
def gA (B : Fin 8) (t : Fin 8192) (k : Fin 4) (l : Fin 512) : EReal :=
  ∑ d : Fin 1024, x (ix3 B t d) * W (ix2 d ⟨1024 * k.val + (512 + l.val), by omega⟩)

/-- The mixed element: the window's mean minus the row, gated. -/
def mixA (B : Fin 8) (t : Fin 8192) (k : Fin 4) (h : ℕ) (l : Fin 512) : EReal :=
  ((∑ j ∈ Finset.range (2 * h), uA x W B (8 - h + t.val + j) k l) * Ideal.div 1 (((cntN t.val h : ℕ) : ℝ) : EReal)
    - uA x W B (8 + t.val) k l) * siluE (gA x W B t k l)

/-- The mixed row times the output weights, group by group. -/
def hA (B : Fin 8) (t : Fin 8192) (n : Fin 1024) : EReal :=
  ∑ l : Fin 512, mixA x W B t 0 1 l * wo (ix2 ⟨l.val, by omega⟩ n) + ∑ l : Fin 512, mixA x W B t 1 2 l * wo (ix2 ⟨512 + l.val, by omega⟩ n)
    + ∑ l : Fin 512, mixA x W B t 2 4 l * wo (ix2 ⟨1024 + l.val, by omega⟩ n)
    + ∑ l : Fin 512, mixA x W B t 3 8 l * wo (ix2 ⟨1536 + l.val, by omega⟩ n)

/-- The layer's element. -/
def poolE (B : Fin 8) (t : Fin 8192) (n : Fin 1024) : EReal :=
  lnE (fun n' => zE (x (ix3 B t n')) (hA x W wo B t n')) (g (ix2 0 n)) (b (ix2 0 n)) n

/-- The layer's array. -/
def poolA : FVec Ideal S8x8192x1024 .f32 := fun i => poolE x W wo g b (i 0) (i 1) (i 2)

variable {X : FVec Ideal S1040x1024 .bf16} {B : Fin 8} {q : ℕ} (hq : q < 8)
  (hX : ∀ (p : Fin 1040) (d : Fin 1024), X (ix2 p d) = xz x B (1024 * q + p.val) d)

include hX in
theorem uE_eq {V : FVec Ideal S1024x1024 .bf16} (k : Fin 4)
    (hV : ∀ d c : Fin 1024, V (ix2 d c) = W (ix2 d ⟨1024 * k.val + c.val, by omega⟩)) (p : ℕ) (hp : p < 1040) (l : Fin 512) :
    uE X V p l = uA x W B (1024 * q + p) k l := by
  unfold uE uA
  rw [dif_pos hp]
  exact Finset.sum_congr rfl fun d _ => by rw [hX, hV]

include hX hq in
theorem groupE_eq {V : FVec Ideal S1024x1024 .bf16} (k : Fin 4) (h : ℕ) (hh : h ≤ 8)
    (hV : ∀ d c : Fin 1024, V (ix2 d c) = W (ix2 d ⟨1024 * k.val + c.val, by omega⟩)) (R : Fin 1024) (l : Fin 512) :
    groupE (BitVec.ofNat 32 q) X h V R l = mixA x W B ⟨1024 * q + R.val, by omega⟩ k h l := by
  have hR := R.isLt
  unfold groupE mixE mixA
  rw [cntE_eq q h R hq hh, uE_eq x W hX k hV _ (by omega)]
  have e1 : (∑ j ∈ Finset.range (2 * h), uE X V (8 - h + R.val + j) l)
      = ∑ j ∈ Finset.range (2 * h), uA x W B (8 - h + (1024 * q + R.val) + j) k l :=
    Finset.sum_congr rfl fun j hj => by
      have := Finset.mem_range.mp hj
      rw [uE_eq x W hX k hV _ (by omega)]
      congr 1; omega
  have e2 : gE X V R l = gA x W B ⟨1024 * q + R.val, by omega⟩ k l := by
    unfold gE gA
    refine Finset.sum_congr rfl fun d _ => ?_
    rw [hX, hV, xz, dif_pos (by dsimp only; omega)]
    congr 3
    exact Fin.ext (by dsimp only; omega)
  have e3 : 1024 * q + (8 + R.val) = 8 + (1024 * q + R.val) := by omega
  rw [e1, e2, e3]

include hX hq in
/-- A block's mixed row times the output weights is the array's. -/
theorem hE_eq {W0 W1 W2 W3 : FVec Ideal S1024x1024 .bf16} {o0 o1 o2 o3 : FVec Ideal S512x1024 .bf16}
    (h0 : ∀ d c : Fin 1024, W0 (ix2 d c) = W (ix2 d ⟨c.val, by omega⟩))
    (h1 : ∀ d c : Fin 1024, W1 (ix2 d c) = W (ix2 d ⟨1024 + c.val, by omega⟩))
    (h2 : ∀ d c : Fin 1024, W2 (ix2 d c) = W (ix2 d ⟨2048 + c.val, by omega⟩))
    (h3 : ∀ d c : Fin 1024, W3 (ix2 d c) = W (ix2 d ⟨3072 + c.val, by omega⟩))
    (k0 : ∀ (l : Fin 512) (n : Fin 1024), o0 (ix2 l n) = wo (ix2 ⟨l.val, by omega⟩ n))
    (k1 : ∀ (l : Fin 512) (n : Fin 1024), o1 (ix2 l n) = wo (ix2 ⟨512 + l.val, by omega⟩ n))
    (k2 : ∀ (l : Fin 512) (n : Fin 1024), o2 (ix2 l n) = wo (ix2 ⟨1024 + l.val, by omega⟩ n))
    (k3 : ∀ (l : Fin 512) (n : Fin 1024), o3 (ix2 l n) = wo (ix2 ⟨1536 + l.val, by omega⟩ n)) (R n : Fin 1024) :
    hE (BitVec.ofNat 32 q) X W0 W1 W2 W3 o0 o1 o2 o3 R n = hA x W wo B ⟨1024 * q + R.val, by omega⟩ n := by
  unfold hE hA
  simp only [groupE_eq x W hq hX 0 1 (by omega) (fun d c => (h0 d c).trans (by congr 3; simp)),
    groupE_eq x W hq hX 1 2 (by omega) (fun d c => (h1 d c).trans (by congr 3)),
    groupE_eq x W hq hX 2 4 (by omega) (fun d c => (h2 d c).trans (by congr 3)),
    groupE_eq x W hq hX 3 8 (by omega) (fun d c => (h3 d c).trans (by congr 3)), k0, k1, k2, k3]

theorem poolA_at (i : S8x8192x1024.Idx) (B : Fin 8) (t : Fin 8192) (n : Fin 1024) (h0 : (i 0).val = B.val) (h1 : (i 1).val = t.val)
    (h2 : (i 2).val = n.val) : poolA x W wo g b i = poolE x W wo g b B t n := by
  unfold poolA
  rw [show i 0 = B from Fin.ext h0, show i 1 = t from Fin.ext h1, show i 2 = n from Fin.ext h2]

end Array

end Cert.KernelIdeal.Pool

end
-- ==== Proof.Pool.Tile.lean ====
/-
  The second region: its result array is the pooled layer of the input, the folded weights, the output weights and the norm's
  gain and offset.
-/
module

public import proofs.«01_k».proof.Proof.Gen.KernelIdeal.Frame
public import proofs.«01_k».proof.Proof.Pool.Array
public import Idealize.ShloMosaic.Lib.Pipeline.ValueKit

@[expose] public section

set_option maxRecDepth 16384

noncomputable section

namespace Cert.KernelIdeal.Pool

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Where each window's block lies at every grid point. -/
theorem idx1 : ∀ t : Fin cfg1.N, win1_0.index t = ![t.val / 8, t.val % 8 * 128 - 1, 0] ∧ win1_1.index t = ![t.val / 8, t.val % 8, 0]
    ∧ win1_2.index t = ![t.val / 8, min ((t.val % 8 + 1) * 128) 1023, 0] ∧ win1_3.index t = ![0, 0] ∧ win1_4.index t = ![0, 0]
    ∧ win1_5.index t = ![0, 0] ∧ win1_6.index t = ![0, 0] ∧ win1_7.index t = ![t.val / 8, t.val % 8, 0]
    ∧ (grid1.coords t 1).val = t.val % 8 ∧ t.val < 64 :=
  (by decide +kernel : ∀ t : Fin grid1.N, _)

/-- The extended rows a grid point projects. -/
theorem ext_at (c : Dev nD) (t : Fin cfg1.N) (p : Fin 1040) (d : Fin 1024) :
    k1_pay2 (grid1.coords t) (iblk1 V c 1 t) (iblk1 V c 0 t) (iblk1 V c 2 t) (ix2 p d)
      = xz (V c main_arg0) ⟨t.val / 8, by have := (idx1 t).2.2.2.2.2.2.2.2.2; omega⟩ (1024 * (t.val % 8) + p.val) d := by
  have ht := (idx1 t).2.2.2.2.2.2.2.2.2
  have hq := (idx1 t).2.2.2.2.2.2.2.2.1
  unfold xz
  pointwise [k1_pay2]
  rw [hq]
  word_cmp
  split_ifs <;> first | omega | rfl | skip
  all_goals
    rw [dif_pos ⟨by omega, by omega⟩]
    blk_point [iblk1, idx1 t]

theorem pool_final (c : Dev nD) : (dat1 V c).arrAt 7 cfg1.N
    = poolA (V c main_arg0) (V c main_v4) (V c main_v6) (V c main_v9) (V c main_v12) := by
  refine (dat1 V c).arrAt_eq_of_covers 7 _ (by decide +kernel) fun t _ y => ?_
  blk_simp
  rw [after1_7]; unfold outsAt1 out1_A_7
  frame_out
  have hq := (idx1 t).2.2.2.2.2.2.2.2.1
  rw [hq]
  have hX := ext_at V c t
  generalize k1_pay2 (F := Ideal) _ _ _ _ = X at hX ⊢
  have h0 : ∀ d n : Fin 1024, View.ld (iblk1 V c 3 t) (Rect.unit ![0, 0] ![1024, 1024] inb_S1024x4096_S1024x1024_0_0) (ix2 d n)
      = V c main_v4 (ix2 d ⟨n.val, by omega⟩) := fun d n => by
    pointwise
    blk_point [iblk1, idx1 t]
  generalize View.ld (iblk1 V c 3 t) (Rect.unit ![0, 0] ![1024, 1024] inb_S1024x4096_S1024x1024_0_0) = W0 at h0 ⊢
  have h1 : ∀ d n : Fin 1024, View.ld (iblk1 V c 3 t) (Rect.unit ![0, 1024] ![1024, 1024] inb_S1024x4096_S1024x1024_0_1024) (ix2 d n)
      = V c main_v4 (ix2 d ⟨1024 + n.val, by omega⟩) := fun d n => by
    pointwise
    blk_point [iblk1, idx1 t]
  generalize View.ld (iblk1 V c 3 t) (Rect.unit ![0, 1024] ![1024, 1024] inb_S1024x4096_S1024x1024_0_1024) = W1 at h1 ⊢
  have h2 : ∀ d n : Fin 1024, View.ld (iblk1 V c 3 t) (Rect.unit ![0, 2048] ![1024, 1024] inb_S1024x4096_S1024x1024_0_2048) (ix2 d n)
      = V c main_v4 (ix2 d ⟨2048 + n.val, by omega⟩) := fun d n => by
    pointwise
    blk_point [iblk1, idx1 t]
  generalize View.ld (iblk1 V c 3 t) (Rect.unit ![0, 2048] ![1024, 1024] inb_S1024x4096_S1024x1024_0_2048) = W2 at h2 ⊢
  have h3 : ∀ d n : Fin 1024, View.ld (iblk1 V c 3 t) (Rect.unit ![0, 3072] ![1024, 1024] inb_S1024x4096_S1024x1024_0_3072) (ix2 d n)
      = V c main_v4 (ix2 d ⟨3072 + n.val, by omega⟩) := fun d n => by
    pointwise
    blk_point [iblk1, idx1 t]
  generalize View.ld (iblk1 V c 3 t) (Rect.unit ![0, 3072] ![1024, 1024] inb_S1024x4096_S1024x1024_0_3072) = W3 at h3 ⊢
  have k0 : ∀ (l : Fin 512) (n : Fin 1024), View.ld (iblk1 V c 4 t) (Rect.unit ![0, 0] ![512, 1024] inb_S2048x1024_S512x1024_0_0) (ix2 l n)
      = V c main_v6 (ix2 ⟨l.val, by omega⟩ n) := fun l n => by
    pointwise
    blk_point [iblk1, idx1 t]
  generalize View.ld (iblk1 V c 4 t) (Rect.unit ![0, 0] ![512, 1024] inb_S2048x1024_S512x1024_0_0) = o0 at k0 ⊢
  have k1 : ∀ (l : Fin 512) (n : Fin 1024), View.ld (iblk1 V c 4 t) (Rect.unit ![512, 0] ![512, 1024] inb_S2048x1024_S512x1024_512_0) (ix2 l n)
      = V c main_v6 (ix2 ⟨512 + l.val, by omega⟩ n) := fun l n => by
    pointwise
    blk_point [iblk1, idx1 t]
  generalize View.ld (iblk1 V c 4 t) (Rect.unit ![512, 0] ![512, 1024] inb_S2048x1024_S512x1024_512_0) = o1 at k1 ⊢
  have k2 : ∀ (l : Fin 512) (n : Fin 1024), View.ld (iblk1 V c 4 t) (Rect.unit ![1024, 0] ![512, 1024] inb_S2048x1024_S512x1024_1024_0) (ix2 l n)
      = V c main_v6 (ix2 ⟨1024 + l.val, by omega⟩ n) := fun l n => by
    pointwise
    blk_point [iblk1, idx1 t]
  generalize View.ld (iblk1 V c 4 t) (Rect.unit ![1024, 0] ![512, 1024] inb_S2048x1024_S512x1024_1024_0) = o2 at k2 ⊢
  have k3 : ∀ (l : Fin 512) (n : Fin 1024), View.ld (iblk1 V c 4 t) (Rect.unit ![1536, 0] ![512, 1024] inb_S2048x1024_S512x1024_1536_0) (ix2 l n)
      = V c main_v6 (ix2 ⟨1536 + l.val, by omega⟩ n) := fun l n => by
    pointwise
    blk_point [iblk1, idx1 t]
  generalize View.ld (iblk1 V c 4 t) (Rect.unit ![1536, 0] ![512, 1024] inb_S2048x1024_S512x1024_1536_0) = o3 at k3 ⊢
  have hg : ∀ n : Fin 1024, iblk1 V c 5 t (ix2 0 n) = V c main_v9 (ix2 0 n) := fun n => by blk_point [iblk1, idx1 t]
  have hb : ∀ n : Fin 1024, iblk1 V c 6 t (ix2 0 n) = V c main_v12 (ix2 0 n) := fun n => by blk_point [iblk1, idx1 t]
  have ht := (idx1 t).2.2.2.2.2.2.2.2.2
  have e : ∀ R n : Fin 1024, hE (BitVec.ofNat 32 (t.val % 8)) X W0 W1 W2 W3 o0 o1 o2 o3 R n
      = hA (V c main_arg0) (V c main_v4) (V c main_v6) ⟨t.val / 8, by omega⟩ ⟨1024 * (t.val % 8) + R.val, by omega⟩ n :=
    hE_eq _ _ _ (by omega) hX h0 h1 h2 h3 k0 k1 k2 k3
  unfold hE at e
  clear hX h0 h1 h2 h3 k0 k1 k2 k3
  canon_tiles x hx
  · rw [show x = ix3 (0 : Fin 1) ⟨(x 1).val, x1_lt⟩ ⟨(x 2).val, x2_lt⟩ from by
      funext a; refine Fin.ext ?_; match a with | 0 => exact (Nat.lt_one_iff.mp x0_lt) | 1 => rfl | 2 => rfl]
    rw [rows3_at]
    simp only [acc_at, last_at, e, hg, hb]
    refine Eq.trans ?_ (poolA_at _ _ _ _ _ _ ⟨t.val / 8, by omega⟩ ⟨1024 * (t.val % 8) + (768 + (x 1).val), by omega⟩
      ⟨(x 2).val, x2_lt⟩ ?_ ?_ ?_).symm
    · unfold poolE
      pointwise
      blk_point [iblk1, idx1 t]
    · blk_simp [idx1 t]
    · blk_simp [idx1 t]; erw [hx1]; dsimp only; omega
    · blk_simp [idx1 t]; exact hx2
  · rw [show x = ix3 (0 : Fin 1) ⟨(x 1).val, x1_lt⟩ ⟨(x 2).val, x2_lt⟩ from by
      funext a; refine Fin.ext ?_; match a with | 0 => exact (Nat.lt_one_iff.mp x0_lt) | 1 => rfl | 2 => rfl]
    rw [rows2_at]
    simp only [acc_at, last_at, e, hg, hb]
    refine Eq.trans ?_ (poolA_at _ _ _ _ _ _ ⟨t.val / 8, by omega⟩ ⟨1024 * (t.val % 8) + (512 + (x 1).val), by omega⟩
      ⟨(x 2).val, x2_lt⟩ ?_ ?_ ?_).symm
    · unfold poolE
      pointwise
      blk_point [iblk1, idx1 t]
    · blk_simp [idx1 t]
    · blk_simp [idx1 t]; erw [hx1]; dsimp only; omega
    · blk_simp [idx1 t]; exact hx2
  · rw [show x = ix3 (0 : Fin 1) ⟨(x 1).val, x1_lt⟩ ⟨(x 2).val, x2_lt⟩ from by
      funext a; refine Fin.ext ?_; match a with | 0 => exact (Nat.lt_one_iff.mp x0_lt) | 1 => rfl | 2 => rfl]
    rw [rows1_at]
    simp only [acc_at, last_at, e, hg, hb]
    refine Eq.trans ?_ (poolA_at _ _ _ _ _ _ ⟨t.val / 8, by omega⟩ ⟨1024 * (t.val % 8) + (256 + (x 1).val), by omega⟩
      ⟨(x 2).val, x2_lt⟩ ?_ ?_ ?_).symm
    · unfold poolE
      pointwise
      blk_point [iblk1, idx1 t]
    · blk_simp [idx1 t]
    · blk_simp [idx1 t]; erw [hx1]; dsimp only; omega
    · blk_simp [idx1 t]; exact hx2
  · rw [show x = ix3 (0 : Fin 1) ⟨(x 1).val, x1_lt⟩ ⟨(x 2).val, x2_lt⟩ from by
      funext a; refine Fin.ext ?_; match a with | 0 => exact (Nat.lt_one_iff.mp x0_lt) | 1 => rfl | 2 => rfl]
    rw [rows0_at]
    simp only [acc_at, last_at, e, hg, hb]
    refine Eq.trans ?_ (poolA_at _ _ _ _ _ _ ⟨t.val / 8, by omega⟩ ⟨1024 * (t.val % 8) + ((x 1).val), by omega⟩
      ⟨(x 2).val, x2_lt⟩ ?_ ?_ ?_).symm
    · unfold poolE
      pointwise
      blk_point [iblk1, idx1 t]
    · blk_simp [idx1 t]
    · blk_simp [idx1 t]; erw [hx1]; dsimp only; omega
    · blk_simp [idx1 t]; exact hx2

end Cert.KernelIdeal.Pool

end
-- ==== Proof.Pool.Entry.lean ====
/-
  What the two regions find in their arrays when they start: the arguments, reshaped, and the folded weights the first region
  leaves for the second.
-/
module

public import proofs.«01_k».proof.Proof.Pool.Run
public import proofs.«01_k».proof.Proof.Pool.Fold
public import proofs.«01_k».proof.Proof.Pool.Tile
public import Idealize.ShloMosaic.Lib.Pipeline.ValueKit

@[expose] public section

set_option maxRecDepth 16384

noncomputable section

namespace Cert.KernelIdeal.Pool

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

section Casts

theorem cast_w (A : FVec Ideal S1x1024x4096 .f32) (k : Fin 1024) (j : Fin 4096) :
    shapeCast S1024x4096 A shapeCasts_S1x1024x4096_S1024x4096 (ix2 k j) = A (ix3 0 k j) := by pointwise

theorem cast_grp (A : FVec Ideal S1x4x512x512 .f32) (k : Fin 4) (d e : Fin 512) :
    shapeCast S4x512x512 A shapeCasts_S1x4x512x512_S4x512x512 (ix3 k d e) = A (ix4 0 k d e) := by pointwise

theorem cast_out (A : FVec Ideal S1x2048x1024 .f32) (l : Fin 2048) (n : Fin 1024) :
    truncf .bf16 (shapeCast S2048x1024 A shapeCasts_S1x2048x1024_S2048x1024) bitsLt_bf16_f32 (ix2 l n) = A (ix3 0 l n) := by pointwise

theorem cast_scale (A : FVec Ideal S1x2048 .f32) (j : Fin 2048) :
    shapeCast S1x2048 (shapeCast S2048 A shapeCasts_S1x2048_S2048) shapeCasts_S2048_S1x2048 (ix2 0 j) = A (ix2 0 j) := by pointwise

theorem cast_row (A : FVec Ideal S2x1024 .f32) (n : Fin 1024) :
    shapeCast S1x1024 (shapeCast S1024 (extractStridedSlice S1x1024 ![0, 0] A slices_S2x1024_S1x1024_0_0) shapeCasts_S1x1024_S1024)
      shapeCasts_S1024_S1x1024 (ix2 0 n) = A (ix2 0 n) := by pointwise

end Casts

theorem V1_v1 (j : Fin 2048) : V1 m ρ c main_v1 (ix2 0 j) = m ((c : Thread nD τ).loc main_arg3) (ix2 0 j) := by
  have e : V1 m ρ c main_v1 = shapeCast S1x2048 (shapeCast S2048 (m ((c : Thread nD τ).loc main_arg3)) shapeCasts_S1x2048_S2048) shapeCasts_S2048_S1x2048 := by
    show StableHlo.after hostOps0 (W0 m ρ c) (Proc.devRef .tc main_v1) = _
    after_results
    try rfl
  rw [e]
  exact cast_scale _ _

theorem V1_v2 (k : Fin 1024) (j : Fin 4096) : V1 m ρ c main_v2 (ix2 k j) = m ((c : Thread nD τ).loc main_arg1) (ix3 0 k j) := by
  have e : V1 m ρ c main_v2 = shapeCast S1024x4096 (m ((c : Thread nD τ).loc main_arg1)) shapeCasts_S1x1024x4096_S1024x4096 := by
    show StableHlo.after hostOps0 (W0 m ρ c) (Proc.devRef .tc main_v2) = _
    after_results
    try rfl
  rw [e]
  exact cast_w _ _ _

theorem V1_v3 (k : Fin 4) (d e : Fin 512) : V1 m ρ c main_v3 (ix3 k d e) = m ((c : Thread nD τ).loc main_arg2) (ix4 0 k d e) := by
  have e : V1 m ρ c main_v3 = shapeCast S4x512x512 (m ((c : Thread nD τ).loc main_arg2)) shapeCasts_S1x4x512x512_S4x512x512 := by
    show StableHlo.after hostOps0 (W0 m ρ c) (Proc.devRef .tc main_v3) = _
    after_results
    try rfl
  rw [e]
  exact cast_grp _ _ _ _

theorem V3_v6 (l : Fin 2048) (n : Fin 1024) : V3 m ρ c main_v6 (ix2 l n) = m ((c : Thread nD τ).loc main_arg4) (ix3 0 l n) := by
  have e : V3 m ρ c main_v6 = truncf (F := Ideal) .bf16 (shapeCast S2048x1024 (m ((c : Thread nD τ).loc main_arg4)) shapeCasts_S1x2048x1024_S2048x1024) bitsLt_bf16_f32 := by
    show StableHlo.after hostOps1 (W2 m ρ c) (Proc.devRef .tc main_v6) = _
    after_results
    rw [W2_args m ρ c main_arg4 (by decide)]
    try rfl
  rw [e]
  exact cast_out _ _ _

theorem V3_v9 (n : Fin 1024) : V3 m ρ c main_v9 (ix2 0 n) = m ((c : Thread nD τ).loc main_arg5) (ix2 0 n) := by
  have e : V3 m ρ c main_v9 = shapeCast S1x1024 (shapeCast S1024 (extractStridedSlice S1x1024 ![0, 0] (m ((c : Thread nD τ).loc main_arg5)) slices_S2x1024_S1x1024_0_0) shapeCasts_S1x1024_S1024)
      shapeCasts_S1024_S1x1024 := by
    show StableHlo.after hostOps1 (W2 m ρ c) (Proc.devRef .tc main_v9) = _
    after_results
    rw [W2_args m ρ c main_arg5 (by decide)]
    rfl
  rw [e]
  exact cast_row _ _

theorem V3_v12 (n : Fin 1024) : V3 m ρ c main_v12 (ix2 0 n) = m ((c : Thread nD τ).loc main_arg6) (ix2 0 n) := by
  have e : V3 m ρ c main_v12 = shapeCast S1x1024 (shapeCast S1024 (extractStridedSlice S1x1024 ![0, 0] (m ((c : Thread nD τ).loc main_arg6)) slices_S2x1024_S1x1024_0_0) shapeCasts_S1x1024_S1024)
      shapeCasts_S1024_S1x1024 := by
    show StableHlo.after hostOps1 (W2 m ρ c) (Proc.devRef .tc main_v12) = _
    after_results
    rw [W2_args m ρ c main_arg6 (by decide)]
    rfl
  rw [e]
  exact cast_row _ _

theorem V3_arg0 : V3 m ρ c main_arg0 = m ((c : Thread nD τ).loc main_arg0) := W3_args m ρ c main_arg0 (by decide)

/-- The second region finds the folded weights the first left. -/
theorem V3_v4 : V3 m ρ c main_v4 = folded (V1 m ρ c main_v2) (V1 m ρ c main_v3) (V1 m ρ c main_v1) :=
  (W3_of m ρ c main_v4 (by decide)).trans ((W2_arr m ρ c 4).trans (fold_final (V1 m ρ) c))

/-- The program's result array. -/
theorem result_eq : (dat1 (V3 m ρ) c).arrAt 7 cfg1.N
    = poolA (m ((c : Thread nD τ).loc main_arg0)) (folded (V1 m ρ c main_v2) (V1 m ρ c main_v3) (V1 m ρ c main_v1))
        (V3 m ρ c main_v6) (V3 m ρ c main_v9) (V3 m ρ c main_v12) := by
  rw [pool_final (V3 m ρ) c, V3_v4, V3_arg0]

end Cert.KernelIdeal.Pool

end
-- ==== Proof.Ref.Cumsum.lean ====
/-
  The reference's running sum over the rows, read at an index: a window of 8192 rows that ends at the row is the sum of the
  rows up to it. With a row of zeros in front and its edges repeated, the difference of two entries `2 h` apart is the sum over
  the window.
-/
module

public import proofs.«01_k».proof.Proof.Gen.ReferenceIdeal.Run
public import Idealize.ShloMosaic.Lib.Pipeline.ValueKit

@[expose] public section

set_option maxRecDepth 16384

noncomputable section

namespace Cert.ReferenceIdeal.Pool

open Idealize.ShloMosaic Idealize.ShloMosaic.TcCoe Idealize.SL.Sem
open Cert.ReferenceIdeal Cert.ReferenceIdeal.Gen Idealize.ShloMosaic.StableHlo

/-- A fold that adds is the start plus the sum. -/
theorem foldl_add_eq {N : ℕ} (g : Fin N → EReal) (v : EReal) :
    (List.finRange N).foldl (fun r n => r + g n) v = v + ∑ n, g n := by
  rw [Fin.sum_univ_def]
  generalize List.finRange N = L
  induction L generalizing v with
  | nil => simp
  | cons a L ih => rw [List.foldl_cons, ih, List.map_cons, List.sum_cons, add_assoc]

/-- Row `s` of `u`, zero beyond the last row. -/
def rowE (u : FVec Ideal S8x8192x512 .f32) (b : Fin 8) (l : Fin 512) (s : ℕ) : EReal := if h : s < 8192 then u (ix3 b ⟨s, h⟩ l) else 0

/-- The positions of a window one wide but for its middle axis. -/
def posEquiv : Fin 8192 ≃ (⟨3, ![1, 8192, 1]⟩ : Shape).Idx where
  toFun k := ix3 0 k 0
  invFun i := ⟨(i 1).val, (i 1).isLt⟩
  left_inv k := rfl
  right_inv i := by
    rw [eq_ix3 i]
    exact congrArg₂ (fun a b => ix3 a _ b) (Subsingleton.elim _ _) (Subsingleton.elim _ _)

/-- The element a window that ends at row `t` meets at its position `i`: zero before the first row. -/
def winE (u : FVec Ideal S8x8192x512 .f32) (b : Fin 8) (t : Fin 8192) (l : Fin 512) (i : (⟨3, ![1, 8192, 1]⟩ : Shape).Idx) : EReal :=
  if h : ∀ a : Fin 3, ![0, 8191, 0] a ≤ (ix3 b t l a).val * ![1, 1, 1] a + (i a).val
      ∧ (ix3 b t l a).val * ![1, 1, 1] a + (i a).val - ![0, 8191, 0] a < S8x8192x512.size a then
    u fun a => ⟨(ix3 b t l a).val * ![1, 1, 1] a + (i a).val - ![0, 8191, 0] a, (h a).2⟩
  else 0

theorem winE_pos (u : FVec Ideal S8x8192x512 .f32) (b : Fin 8) (t : Fin 8192) (l : Fin 512) (k : Fin 8192) :
    winE u b t l (posEquiv k) = if 8191 ≤ t.val + k.val then rowE u b l (t.val + k.val - 8191) else 0 := by
  have hk := k.isLt
  have ht := t.isLt
  unfold winE
  by_cases hc : 8191 ≤ t.val + k.val
  · rw [if_pos hc, rowE, dif_pos (show t.val + k.val - 8191 < 8192 by omega), dif_pos]
    · congr 1
      funext a
      refine Fin.ext ?_
      match a with
      | 0 => exact (by show b.val * 1 + 0 - 0 = b.val; omega)
      | 1 => exact (by show t.val * 1 + k.val - 8191 = t.val + k.val - 8191; omega)
      | 2 => exact (by show l.val * 1 + 0 - 0 = l.val; omega)
    · intro a
      match a with
      | 0 => exact (by show 0 ≤ b.val * 1 + 0 ∧ b.val * 1 + 0 - 0 < 8; omega)
      | 1 => exact (by show 8191 ≤ t.val * 1 + k.val ∧ t.val * 1 + k.val - 8191 < 8192; omega)
      | 2 => exact (by show 0 ≤ l.val * 1 + 0 ∧ l.val * 1 + 0 - 0 < 512; omega)
  · rw [if_neg hc, dif_neg]
    intro h
    have h1 : 8191 ≤ t.val * 1 + k.val := (h 1).1
    omega

theorem reduceWindow_at (u : FVec Ideal S8x8192x512 .f32) (z : FVec Ideal S_ .f32) (hz : z (Shape.Idx.first h_S_) = 0) (b : Fin 8) (t : Fin 8192) (l : Fin 512) :
    Host.reduceWindowAdd ![1, 8192, 1] ![1, 1, 1] ![0, 8191, 0] ![0, 0, 0] u z
        reduceWindows_S8x8192x512_S8x8192x512_w1s1p0_0_w8192s1p8191_0_w1s1p0_0 h_S_ (ix3 b t l)
      = ∑ s ∈ Finset.range (t.val + 1), rowE u b l s := by
  have ht := t.isLt
  simp only [Host.reduceWindowAdd, Ideal.hostReduceWindowAdd_def, Ideal.hostReduceWindowAdd, Host.reduceWindow]
  rw [foldl_add_eq, hz, zero_add]
  refine (show _ = ∑ n, winE u b t l ((Shape.rowMajor ⟨3, ![1, 8192, 1]⟩).symm n) from rfl).trans ?_
  rw [Equiv.sum_comp (Shape.rowMajor ⟨3, ![1, 8192, 1]⟩).symm (winE u b t l), ← Equiv.sum_comp posEquiv]
  simp only [winE_pos]
  have e : Finset.range 8192 = Finset.range ((8191 - t.val) + (t.val + 1)) := by congr 1; omega
  rw [Fin.sum_univ_eq_sum_range (fun k => if 8191 ≤ t.val + k then rowE u b l (t.val + k - 8191) else 0) 8192, e,
    Finset.sum_range_add, Finset.sum_eq_zero, zero_add]
  · refine Finset.sum_congr rfl fun s hs => ?_
    rw [if_pos (by omega), show t.val + (8191 - t.val + s) - 8191 = s by omega]
  · intro k hk
    have := Finset.mem_range.mp hk
    rw [if_neg (by omega)]

/-- The sum of the rows before `p`. -/
def cumE (u : FVec Ideal S8x8192x512 .f32) (b : Fin 8) (l : Fin 512) (p : ℕ) : EReal := ∑ s ∈ Finset.range p, rowE u b l s

/-- The running sum with a row of zeros in front. -/
def sums (u : FVec Ideal S8x8192x512 .f32) : FVec Ideal S8x8193x512 .f32 :=
  pad S8x8193x512 ![0, 1, 0] ![0, 0, 0] ![0, 0, 0]
    (Host.reduceWindowAdd ![1, 8192, 1] ![1, 1, 1] ![0, 8191, 0] ![0, 0, 0] u
      (broadcastInDim S_ ![] bcast_S_S_ (constant S_ .f32 0x00000000#32))
      reduceWindows_S8x8192x512_S8x8192x512_w1s1p0_0_w8192s1p8191_0_w1s1p0_0 h_S_)
    (sitofp .f32 (constantI S_ 32 0#32)) pads_S8x8192x512_S8x8193x512_000_100_000 h_S_

theorem sums_at (u : FVec Ideal S8x8192x512 .f32) (b : Fin 8) (p : Fin 8193) (l : Fin 512) :
    sums u (ix3 b p l) = cumE u b l p.val := by
  have h := reduceWindow_at u (broadcastInDim S_ ![] bcast_S_S_ (constant (F := Ideal) S_ .f32 0x00000000#32)) (by pointwise) b
  unfold sums cumE
  generalize Host.reduceWindowAdd (F := Ideal) (φ := .f32) (s := S8x8192x512) (t := S8x8192x512) ![1, 8192, 1] ![1, 1, 1] ![0, 8191, 0] ![0, 0, 0] _ _ _ _ = R at h ⊢
  pointwise
  split
  · next hp =>
    rw [h]
    congr 2
    dsimp only; omega
  · next hp =>
    have h0 : p.val = 0 := by have := p.isLt; omega
    rw [h0, Finset.range_zero, Finset.sum_empty]
    show (((BitVec.toInt 0#32 : ℤ) : ℝ) : EReal) = 0
    simp

end Cert.ReferenceIdeal.Pool

end
-- ==== Proof.Ref.Edges.lean ====
/-
  The running sums with their first and last rows repeated: the entry `P` is the sum of the rows before row `P - h`, clipped to
  the rows there are.
-/
module

public import proofs.«01_k».proof.Proof.Ref.Cumsum

@[expose] public section

set_option maxRecDepth 16384

noncomputable section

namespace Cert.ReferenceIdeal.Pool

open Idealize.ShloMosaic Idealize.ShloMosaic.TcCoe Idealize.SL.Sem
open Cert.ReferenceIdeal Cert.ReferenceIdeal.Gen Idealize.ShloMosaic.StableHlo

theorem v14_at (V : Valuation τ sig (Elt Ideal)) (b : Fin 8) (P : Fin 8195) (l : Fin 512) :
    Value.res_main_v14 V (ix3 b P l) = cumE (Value.res_main_v9 V) b l (min (P.val - 1) 8192) := by
  have h := sums_at (Value.res_main_v9 V) b
  have e : Value.res_main_v11 V = sums (Value.res_main_v9 V) := rfl
  unfold Value.res_main_v14
  rw [e]
  generalize sums (Value.res_main_v9 V) = R at h ⊢
  pointwise [h]
  have hP := P.isLt
  split_ifs
  all_goals (refine congrArg (cumE _ b l) ?_; omega)

theorem v41_at (V : Valuation τ sig (Elt Ideal)) (b : Fin 8) (P : Fin 8197) (l : Fin 512) :
    Value.res_main_v41 V (ix3 b P l) = cumE (Value.res_main_v34 V) b l (min (P.val - 2) 8192) := by
  have h := sums_at (Value.res_main_v34 V) b
  have e : Value.res_main_v36 V = sums (Value.res_main_v34 V) := rfl
  unfold Value.res_main_v41
  rw [e]
  generalize sums (Value.res_main_v34 V) = R at h ⊢
  pointwise [h]
  have hP := P.isLt
  split_ifs
  all_goals (refine congrArg (cumE _ b l) ?_; omega)

theorem v68_at (V : Valuation τ sig (Elt Ideal)) (b : Fin 8) (P : Fin 8201) (l : Fin 512) :
    Value.res_main_v68 V (ix3 b P l) = cumE (Value.res_main_v61 V) b l (min (P.val - 4) 8192) := by
  have h := sums_at (Value.res_main_v61 V) b
  have e : Value.res_main_v63 V = sums (Value.res_main_v61 V) := rfl
  unfold Value.res_main_v68
  rw [e]
  generalize sums (Value.res_main_v61 V) = R at h ⊢
  pointwise [h]
  have hP := P.isLt
  split_ifs
  all_goals (refine congrArg (cumE _ b l) ?_; omega)

theorem v95_at (V : Valuation τ sig (Elt Ideal)) (b : Fin 8) (P : Fin 8209) (l : Fin 512) :
    Value.res_main_v95 V (ix3 b P l) = cumE (Value.res_main_v88 V) b l (min (P.val - 8) 8192) := by
  have h := sums_at (Value.res_main_v88 V) b
  have e : Value.res_main_v90 V = sums (Value.res_main_v88 V) := rfl
  unfold Value.res_main_v95
  rw [e]
  generalize sums (Value.res_main_v88 V) = R at h ⊢
  pointwise [h]
  have hP := P.isLt
  split_ifs
  all_goals (refine congrArg (cumE _ b l) ?_; omega)

end Cert.ReferenceIdeal.Pool

end
-- ==== Proof.Ref.Layer.lean ====
/-
  The reference's layer read at an index: projected columns, window means, group matrices, gate, output weights, layer norm.
-/
module

public import proofs.«01_k».proof.Proof.Ref.Edges
public import Idealize.ShloMosaic.Lib.Affine

@[expose] public section

set_option maxRecDepth 16384

noncomputable section

namespace Cert.ReferenceIdeal.Pool

open Idealize.ShloMosaic Idealize.ShloMosaic.TcCoe Idealize.SL.Sem
open Cert.ReferenceIdeal Cert.ReferenceIdeal.Gen Idealize.ShloMosaic.StableHlo

/-- The rows a window of half-width `h` at row `t` meets, as the reference counts them, in words. -/
def cntW (t h : ℕ) : BitVec 32 :=
  IntOp.subi (IntOp.minsi (IntOp.addi (BitVec.ofNat 32 t) (BitVec.ofNat 32 h)) 8192#32)
    (IntOp.maxsi (IntOp.subi (BitVec.ofNat 32 t) (BitVec.ofNat 32 h)) 0#32)

theorem cntW_eq (t h : ℕ) (ht : t < 8192) (hh : h ≤ 8) :
    (FloatOps.sitofp (F := Ideal) FTy.f32 (cntW t h) : EReal) = ((((min (t + h) 8192 - (t - h) : ℕ) : ℕ) : ℝ) : EReal) := by
  have hc : min (t + h) 8192 - (t - h) ≤ 8192 := by omega
  have hI := Affine.subi
    (Affine.minsi (Affine.addi (Affine.ofNat t ⟨rfl, by omega⟩) (Affine.ofNat h ⟨rfl, by omega⟩) ⟨rfl, by omega, by omega⟩)
      (Affine.ofNat 8192 ⟨rfl, by omega⟩) rfl)
    (Affine.maxsi (Affine.subi (Affine.ofNat t ⟨rfl, by omega⟩) (Affine.ofNat h ⟨rfl, by omega⟩) ⟨rfl, by omega, by omega⟩)
      (Affine.ofNat 0 ⟨rfl, by omega⟩) rfl)
    (e := ((min (t + h) 8192 - (t - h) : ℕ) : ℤ)) ⟨by omega, by omega, by omega⟩
  unfold Affine.IsInt at hI
  show (((BitVec.toInt _ : ℤ) : ℝ) : EReal) = _
  exact (congrArg (fun z : ℤ => ((z : ℝ) : EReal)) hI).trans (by simp)

section Layer

variable (x : FVec Ideal S8x8192x1024 .f32) (wi : FVec Ideal S1x1024x4096 .f32) (gr : FVec Ideal S1x4x512x512 .f32)
  (sc : FVec Ideal S1x2048 .f32) (wo : FVec Ideal S1x2048x1024 .f32) (g b : FVec Ideal S2x1024 .f32)

/-- Column `n` of the projected row `s`. -/
def dotR (B : Fin 8) (s : Fin 8192) (n : Fin 4096) : EReal := ∑ j : Fin 1024, x (ix3 B s j) * wi (ix3 0 j n)

/-- Column `d` of group `k`'s projected row `s`. -/
def uR (B : Fin 8) (s : Fin 8192) (k : Fin 4) (d : Fin 512) : EReal :=
  dotR x wi B s ⟨512 * k.val + d.val, by omega⟩

/-- Column `e` of group `k`'s gate at row `s`. -/
def gR (B : Fin 8) (s : Fin 8192) (k : Fin 4) (e : Fin 512) : EReal :=
  dotR x wi B s ⟨2048 + (512 * k.val + e.val), by omega⟩

/-- The sum of a projected column over the rows before `p`. -/
def cumR (B : Fin 8) (k : Fin 4) (d : Fin 512) (p : ℕ) : EReal :=
  ∑ s ∈ Finset.range p, if h : s < 8192 then uR x wi B ⟨s, h⟩ k d else 0

/-- The window's mean minus the row; `w = 2 h` rows at most. -/
def yR (B : Fin 8) (t : Fin 8192) (k : Fin 4) (h w : ℕ) (d : Fin 512) : EReal :=
  Ideal.div (cumR x wi B k d (min (w + t.val - h) 8192) - cumR x wi B k d (min (t.val - h) 8192))
    (FloatOps.sitofp (F := Ideal) FTy.f32 (cntW t.val h)) - uR x wi B t k d

/-- The mixed column `e` of group `k`. -/
def zR (B : Fin 8) (t : Fin 8192) (k : Fin 4) (h w : ℕ) (e : Fin 512) : EReal :=
  (∑ d : Fin 512, gr (ix4 0 k d e) * yR x wi B t k h w d) * sc (ix2 0 ⟨512 * k.val + e.val, by omega⟩)

/-- The mixed column, gated. -/
def mixR (B : Fin 8) (t : Fin 8192) (k : Fin 4) (h w : ℕ) (e : Fin 512) : EReal :=
  zR x wi gr sc B t k h w e * (gR x wi B t k e * Ideal.div 1 (1 + Ideal.exp (-gR x wi B t k e)))

/-- The gated row times the output weights. -/
def hR (B : Fin 8) (t : Fin 8192) (n : Fin 1024) : EReal :=
  ∑ e : Fin 512, mixR x wi gr sc B t 0 1 2 e * wo (ix3 0 ⟨e.val, by omega⟩ n)
    + ∑ e : Fin 512, mixR x wi gr sc B t 1 2 4 e * wo (ix3 0 ⟨512 + e.val, by omega⟩ n)
    + ∑ e : Fin 512, mixR x wi gr sc B t 2 4 8 e * wo (ix3 0 ⟨1024 + e.val, by omega⟩ n)
    + ∑ e : Fin 512, mixR x wi gr sc B t 3 8 16 e * wo (ix3 0 ⟨1536 + e.val, by omega⟩ n)

/-- The row the layer norm is applied to: the input row scaled, plus the mixed row. -/
def rowR (h : EReal) (B : Fin 8) (t : Fin 8192) (n : Fin 1024) : EReal := Ideal.ofBits .f32 0x3FB504F3#32 * x (ix3 B t n) + h

/-- A layer norm's element `n` of the row `z`. -/
def lnR (z : Fin 1024 → EReal) (g b : EReal) (n : Fin 1024) : EReal :=
  (z n - Ideal.div (∑ k, z k) (Ideal.ofBits .f32 0x44800000#32))
      * Ideal.rsqrt (Ideal.div (∑ k, (z k - Ideal.div (∑ k, z k) (Ideal.ofBits .f32 0x44800000#32))
            * (z k - Ideal.div (∑ k, z k) (Ideal.ofBits .f32 0x44800000#32))) (Ideal.ofBits .f32 0x44800000#32)
          + Ideal.ofBits .f32 0x3727C5AC#32) * g + b

/-- The layer's element. -/
def refE (B : Fin 8) (t : Fin 8192) (n : Fin 1024) : EReal :=
  lnR (fun n' => rowR x (hR x wi gr sc wo B t n') B t n') (g (ix2 0 n)) (b (ix2 0 n)) n

/-- A sum over four groups of 512, group by group. -/
theorem sum_groups (f : Fin 2048 → EReal) : ∑ c, f c = ∑ e : Fin 512, f ⟨e.val, by omega⟩ + ∑ e : Fin 512, f ⟨512 + e.val, by omega⟩
    + ∑ e : Fin 512, f ⟨1024 + e.val, by omega⟩ + ∑ e : Fin 512, f ⟨1536 + e.val, by omega⟩ := by
  have h : ∀ o : ℕ, (ho : o + 512 ≤ 2048) → ∑ e : Fin 512, f ⟨o + e.val, by omega⟩
      = ∑ s ∈ Finset.range 512, if h : o + s < 2048 then f ⟨o + s, h⟩ else 0 := fun o ho => by
    rw [← Fin.sum_univ_eq_sum_range (fun s => if h : o + s < 2048 then f ⟨o + s, h⟩ else 0)]
    exact Finset.sum_congr rfl fun e _ => by rw [dif_pos]
  have h0 : ∑ e : Fin 512, f ⟨e.val, by omega⟩ = ∑ s ∈ Finset.range 512, if h : s < 2048 then f ⟨s, h⟩ else 0 := by
    rw [← Fin.sum_univ_eq_sum_range (fun s => if h : s < 2048 then f ⟨s, h⟩ else 0)]
    exact Finset.sum_congr rfl fun e _ => by rw [dif_pos]
  have ha : ∑ c, f c = ∑ s ∈ Finset.range (512 + 512 + 512 + 512), if h : s < 2048 then f ⟨s, h⟩ else 0 := by
    rw [← Fin.sum_univ_eq_sum_range (fun s => if h : s < 2048 then f ⟨s, h⟩ else 0)]
    exact Finset.sum_congr rfl fun e _ => by rw [dif_pos e.isLt]
  rw [h0, h 512 (by omega), h 1024 (by omega), h 1536 (by omega), ha, Finset.sum_range_add, Finset.sum_range_add, Finset.sum_range_add]

end Layer

section Reads

variable (V : Valuation τ sig (Elt Ideal))

theorem v4_at (B : Fin 8) (s : Fin 8192) (n : Fin 4096) : Value.res_main_v4 V (ix3 B s n)
    = dotR (V (Proc.devRef .tc main_arg0)) (V (Proc.devRef .tc main_arg1)) B s n := by
  unfold Value.res_main_v4 dotR
  generalize V (Proc.devRef .tc main_arg0) = x
  generalize V (Proc.devRef .tc main_arg1) = wi
  pointwise

theorem v6_at (B : Fin 8) (s : Fin 8192) (n : Fin 2048) : Value.res_main_v6 V (ix3 B s n)
    = Value.res_main_v4 V (ix3 B s ⟨2048 + n.val, by omega⟩) := by
  unfold Value.res_main_v6
  pointwise

theorem v9_at (B : Fin 8) (s : Fin 8192) (d : Fin 512) : Value.res_main_v9 V (ix3 B s d)
    = uR (V (Proc.devRef .tc main_arg0)) (V (Proc.devRef .tc main_arg1)) B s 0 d := by
  have h := v4_at V
  unfold Value.res_main_v9 Value.res_main_v7 uR
  generalize Value.res_main_v4 V = R at h ⊢
  pointwise [h]

theorem v9_cum (B : Fin 8) (d : Fin 512) (p : ℕ) : cumE (Value.res_main_v9 V) B d p
    = cumR (V (Proc.devRef .tc main_arg0)) (V (Proc.devRef .tc main_arg1)) B 0 d p := by
  unfold cumE cumR rowE
  simp only [v9_at]

theorem v34_at (B : Fin 8) (s : Fin 8192) (d : Fin 512) : Value.res_main_v34 V (ix3 B s d)
    = uR (V (Proc.devRef .tc main_arg0)) (V (Proc.devRef .tc main_arg1)) B s 1 d := by
  have h := v4_at V
  unfold Value.res_main_v34 Value.res_main_v7 uR
  generalize Value.res_main_v4 V = R at h ⊢
  pointwise [h]

theorem v34_cum (B : Fin 8) (d : Fin 512) (p : ℕ) : cumE (Value.res_main_v34 V) B d p
    = cumR (V (Proc.devRef .tc main_arg0)) (V (Proc.devRef .tc main_arg1)) B 1 d p := by
  unfold cumE cumR rowE
  simp only [v34_at]

theorem v61_at (B : Fin 8) (s : Fin 8192) (d : Fin 512) : Value.res_main_v61 V (ix3 B s d)
    = uR (V (Proc.devRef .tc main_arg0)) (V (Proc.devRef .tc main_arg1)) B s 2 d := by
  have h := v4_at V
  unfold Value.res_main_v61 Value.res_main_v7 uR
  generalize Value.res_main_v4 V = R at h ⊢
  pointwise [h]

theorem v61_cum (B : Fin 8) (d : Fin 512) (p : ℕ) : cumE (Value.res_main_v61 V) B d p
    = cumR (V (Proc.devRef .tc main_arg0)) (V (Proc.devRef .tc main_arg1)) B 2 d p := by
  unfold cumE cumR rowE
  simp only [v61_at]

theorem v88_at (B : Fin 8) (s : Fin 8192) (d : Fin 512) : Value.res_main_v88 V (ix3 B s d)
    = uR (V (Proc.devRef .tc main_arg0)) (V (Proc.devRef .tc main_arg1)) B s 3 d := by
  have h := v4_at V
  unfold Value.res_main_v88 Value.res_main_v7 uR
  generalize Value.res_main_v4 V = R at h ⊢
  pointwise [h]

theorem v88_cum (B : Fin 8) (d : Fin 512) (p : ℕ) : cumE (Value.res_main_v88 V) B d p
    = cumR (V (Proc.devRef .tc main_arg0)) (V (Proc.devRef .tc main_arg1)) B 3 d p := by
  unfold cumE cumR rowE
  simp only [v88_at]

/-- The four groups' mixed columns. -/
theorem v124_at (B : Fin 8) (t : Fin 8192) (e : Fin 512) :
    Value.res_main_v124 V (ix3 B t ⟨e.val, by omega⟩)
      = zR (V (Proc.devRef .tc main_arg0)) (V (Proc.devRef .tc main_arg1)) (V (Proc.devRef .tc main_arg2)) (V (Proc.devRef .tc main_arg3))
          B t 0 1 2 e
    ∧ Value.res_main_v124 V (ix3 B t ⟨512 + e.val, by omega⟩)
      = zR (V (Proc.devRef .tc main_arg0)) (V (Proc.devRef .tc main_arg1)) (V (Proc.devRef .tc main_arg2)) (V (Proc.devRef .tc main_arg3))
          B t 1 2 4 e
    ∧ Value.res_main_v124 V (ix3 B t ⟨1024 + e.val, by omega⟩)
      = zR (V (Proc.devRef .tc main_arg0)) (V (Proc.devRef .tc main_arg1)) (V (Proc.devRef .tc main_arg2)) (V (Proc.devRef .tc main_arg3))
          B t 2 4 8 e
    ∧ Value.res_main_v124 V (ix3 B t ⟨1536 + e.val, by omega⟩)
      = zR (V (Proc.devRef .tc main_arg0)) (V (Proc.devRef .tc main_arg1)) (V (Proc.devRef .tc main_arg2)) (V (Proc.devRef .tc main_arg3))
          B t 3 8 16 e := by
  have h14 := v14_at V
  have h41 := v41_at V
  have h68 := v68_at V
  have h95 := v95_at V
  have h9 := v9_at V
  have h34 := v34_at V
  have h61 := v61_at V
  have h88 := v88_at V
  have he := e.isLt
  have d0 : e.val / 512 = 0 := by omega
  have m0 : e.val % 512 = e.val := by omega
  have d1 : (512 + e.val) / 512 = 1 := by omega
  have m1 : (512 + e.val) % 512 = e.val := by omega
  have d2 : (1024 + e.val) / 512 = 2 := by omega
  have m2 : (1024 + e.val) % 512 = e.val := by omega
  have d3 : (1536 + e.val) / 512 = 3 := by omega
  have m3 : (1536 + e.val) % 512 = e.val := by omega
  unfold zR yR cntW Value.res_main_v124 Value.res_main_v15 Value.res_main_v42 Value.res_main_v69 Value.res_main_v96
  simp only [v9_cum, v34_cum, v61_cum, v88_cum] at h14 h41 h68 h95
  generalize Value.res_main_v14 V = a at h14 ⊢
  generalize Value.res_main_v41 V = b at h41 ⊢
  generalize Value.res_main_v68 V = c at h68 ⊢
  generalize Value.res_main_v95 V = d at h95 ⊢
  generalize Value.res_main_v9 V = p at h9 ⊢
  generalize Value.res_main_v34 V = q at h34 ⊢
  generalize Value.res_main_v61 V = r at h61 ⊢
  generalize Value.res_main_v88 V = s at h88 ⊢
  refine ⟨?_, ?_, ?_, ?_⟩ <;> pointwise [h14, h41, h68, h95, h9, h34, h61, h88, d0, d1, d2, d3, m0, m1, m2, m3]

/-- The gate's columns. -/
theorem gate_at (B : Fin 8) (t : Fin 8192) (e : Fin 512) :
    (Value.res_main_v6 V (ix3 B t ⟨e.val, by omega⟩) = gR (V (Proc.devRef .tc main_arg0)) (V (Proc.devRef .tc main_arg1)) B t 0 e)
    ∧ (Value.res_main_v6 V (ix3 B t ⟨512 + e.val, by omega⟩) = gR (V (Proc.devRef .tc main_arg0)) (V (Proc.devRef .tc main_arg1)) B t 1 e)
    ∧ (Value.res_main_v6 V (ix3 B t ⟨1024 + e.val, by omega⟩) = gR (V (Proc.devRef .tc main_arg0)) (V (Proc.devRef .tc main_arg1)) B t 2 e)
    ∧ (Value.res_main_v6 V (ix3 B t ⟨1536 + e.val, by omega⟩) = gR (V (Proc.devRef .tc main_arg0)) (V (Proc.devRef .tc main_arg1)) B t 3 e) := by
  refine ⟨?_, ?_, ?_, ?_⟩
  all_goals
    rw [v6_at, v4_at, gR]
    exact congrArg (dotR _ _ B t) (Fin.ext (by simp))

/-- The row the layer norm is applied to. -/
theorem v130_at (B : Fin 8) (t : Fin 8192) (n : Fin 1024) : Value.res_main_v130 V (ix3 B t n)
    = rowR (V (Proc.devRef .tc main_arg0)) (hR (V (Proc.devRef .tc main_arg0)) (V (Proc.devRef .tc main_arg1)) (V (Proc.devRef .tc main_arg2)) (V (Proc.devRef .tc main_arg3))
        (V (Proc.devRef .tc main_arg4)) B t n) B t n := by
  have hz := v124_at V B t
  have hg := gate_at V B t
  unfold Value.res_main_v130 rowR hR mixR
  generalize Value.res_main_v124 V = a at hz ⊢
  generalize Value.res_main_v6 V = b at hg ⊢
  simp only [← (hz _).1, ← (hz _).2.1, ← (hz _).2.2.1, ← (hz _).2.2.2, ← (hg _).1, ← (hg _).2.1, ← (hg _).2.2.1, ← (hg _).2.2.2]
  clear hz hg
  generalize V (Proc.devRef .tc main_arg0) = x
  generalize V (Proc.devRef .tc main_arg4) = w
  pointwise
  rw [sum_groups]

/-- The reference's result at an index. -/
theorem result_at (B : Fin 8) (t : Fin 8192) (n : Fin 1024) : Value.val4 V (Proc.devRef .tc main_v158) (ix3 B t n)
    = refE (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) B t n := by
  have h := v130_at V
  have e : Value.val4 V (Proc.devRef .tc main_v158) = _ := Value.val4_main_v158 V
  rw [e]
  unfold Value.res_main_v140 Value.res_main_v138 refE lnR
  simp only [← h]
  generalize Value.res_main_v130 V = z
  generalize V (Proc.devRef .tc main_arg5) = g
  generalize V (Proc.devRef .tc main_arg6) = b
  pointwise

end Reads

end Cert.ReferenceIdeal.Pool

end
-- ==== Proof.Equal.lean ====
/-
  The two programs' elements are equal where the input, the input weights, the group weights and the scale are finite. A
  window's sum of rows is a difference of two running sums; the projection by folded weights is the projection, then the
  group's product, then the scale. Both hold over the reals, so the arrays are read as arrays of reals.
-/
module

public import proofs.«01_k».proof.Proof.Pool.Entry
public import proofs.«01_k».proof.Proof.Ref.Layer

@[expose] public section

set_option maxRecDepth 16384

noncomputable section

namespace Cert.Equal

open Idealize.ShloMosaic Idealize.ShloMosaic.TcCoe Idealize.SL.Sem
open Cert.KernelIdeal.Pool Cert.ReferenceIdeal.Pool

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of `n` rows from `a` on, the first 8 rows being zero, is a difference of running sums. -/
theorem sum_rows (f : ℕ → ℝ) (a n : ℕ) : ∑ i ∈ Finset.range n, (if 8 ≤ a + i then f (a + i - 8) else 0)
    = ∑ s ∈ Finset.range (a + n - 8), f s - ∑ s ∈ Finset.range (a - 8), f s := by
  induction n with
  | zero => simp
  | succ n ih =>
    rw [Finset.sum_range_succ, ih]
    by_cases h : 8 ≤ a + n
    · rw [if_pos h, show a + (n + 1) - 8 = (a + n - 8) + 1 by omega, Finset.sum_range_succ]
      ring
    · rw [if_neg h, show a + (n + 1) - 8 = a + n - 8 by omega, add_zero]

theorem sum_min (f : ℕ → ℝ) (hf : ∀ s, 8192 ≤ s → f s = 0) (p : ℕ) :
    ∑ s ∈ Finset.range (min p 8192), f s = ∑ s ∈ Finset.range p, f s := by
  refine Finset.sum_subset (fun s hs => ?_) fun s hs hn => hf s ?_
  · simp only [Finset.mem_range] at hs ⊢; omega
  · simp only [Finset.mem_range] at hs hn; omega

/-- The window's mean minus the row, projected by folded weights, or projected, grouped and scaled. -/
theorem window_eq (f : Fin 512 → ℕ → ℝ) (hf : ∀ d s, 8192 ≤ s → f d s = 0) (G : Fin 512 → ℝ) (S c : ℝ) (t h : ℕ) (hh : h ≤ 8) :
    (∑ j ∈ Finset.range (2 * h), (∑ d, (if 8 ≤ 8 - h + t + j then f d (8 - h + t + j - 8) else 0) * G d) * S) * (1 * (1 / c))
        - (∑ d, f d t * G d) * S
      = (∑ d, G d * ((∑ s ∈ Finset.range (min (2 * h + t - h) 8192), f d s - ∑ s ∈ Finset.range (min (t - h) 8192), f d s) * (1 / c) - f d t)) * S := by
  have e : ∀ d, ∑ s ∈ Finset.range (min (2 * h + t - h) 8192), f d s - ∑ s ∈ Finset.range (min (t - h) 8192), f d s
      = ∑ j ∈ Finset.range (2 * h), (if 8 ≤ 8 - h + t + j then f d (8 - h + t + j - 8) else 0) := fun d => by
    rw [sum_rows, sum_min _ (hf d), sum_min _ (hf d), show 8 - h + t + 2 * h - 8 = 2 * h + t - h by omega,
      show 8 - h + t - 8 = t - h by omega]
  simp only [e]
  rw [← Finset.sum_mul, Finset.sum_comm]
  simp only [← Finset.sum_mul]
  simp only [mul_sub, Finset.sum_sub_distrib, sub_mul, one_mul]
  congr 1
  · rw [mul_right_comm]
    congr 1
    rw [Finset.sum_mul]
    exact Finset.sum_congr rfl fun d _ => by ring
  · exact congrArg (· * S) (Finset.sum_congr rfl fun d _ => mul_comm _ _)

section Real

variable (X : Fin 8192 → Fin 1024 → ℝ) (Wi : Fin 1024 → Fin 4096 → ℝ)

/-- Column `d` of group `k`'s projected row `s`, zero beyond the last row. -/
def rowX (k : Fin 4) (d : Fin 512) (s : ℕ) : ℝ :=
  if h : s < 8192 then ∑ j, X ⟨s, h⟩ j * Wi j ⟨512 * k.val + d.val, by omega⟩ else 0

end Real

section Arrays

variable {x : FVec Ideal KernelIdeal.S8x8192x1024 .f32} {wi : FVec Ideal ReferenceIdeal.S1x1024x4096 .f32}
  {gr : FVec Ideal ReferenceIdeal.S1x4x512x512 .f32} {sc : FVec Ideal ReferenceIdeal.S1x2048 .f32}
  {wi2 : FVec Ideal KernelIdeal.S1024x4096 .f32} {G : FVec Ideal KernelIdeal.S4x512x512 .f32} {s2 : FVec Ideal KernelIdeal.S1x2048 .f32}
  (hw : ∀ k j, wi2 (ix2 k j) = wi (ix3 0 k j)) (hG : ∀ k d e, G (ix3 k d e) = gr (ix4 0 k d e)) (hs : ∀ j, s2 (ix2 0 j) = sc (ix2 0 j))
  {X : Fin 8 → Fin 8192 → Fin 1024 → ℝ} {Wi : Fin 1024 → Fin 4096 → ℝ} {Gr : Fin 4 → Fin 512 → Fin 512 → ℝ} {Sc : Fin 2048 → ℝ}
  (hX : ∀ B t d, x (ix3 B t d) = (X B t d : EReal)) (hWi : ∀ k j, wi (ix3 0 k j) = (Wi k j : EReal))
  (hGr : ∀ k d e, gr (ix4 0 k d e) = (Gr k d e : EReal)) (hSc : ∀ j, sc (ix2 0 j) = (Sc j : EReal))

include hX hWi in
theorem uR_eq (B : Fin 8) (s : Fin 8192) (k : Fin 4) (d : Fin 512) : uR x wi B s k d = (rowX (X B) Wi k d s.val : EReal) := by
  unfold uR dotR rowX
  rw [dif_pos s.isLt, coe_sum]
  exact Finset.sum_congr rfl fun j _ => by rw [hX, hWi, EReal.coe_mul]

include hX hWi in
theorem cumR_eq (B : Fin 8) (k : Fin 4) (d : Fin 512) (p : ℕ) :
    cumR x wi B k d p = ((∑ s ∈ Finset.range p, rowX (X B) Wi k d s : ℝ) : EReal) := by
  unfold cumR
  rw [coe_sum]
  refine Finset.sum_congr rfl fun s _ => ?_
  by_cases h : s < 8192
  · rw [dif_pos h, uR_eq hX hWi]
  · rw [dif_neg h, rowX, dif_neg h, EReal.coe_zero]

include hw hG hs hX hWi hGr hSc in
/-- A row projected by folded weights. -/
theorem uA_eq (B : Fin 8) (P : ℕ) (k : Fin 4) (e : Fin 512) : uA x (folded wi2 G s2) B P k e
    = (((∑ d, (if 8 ≤ P then rowX (X B) Wi k d (P - 8) else 0) * Gr k d e) * Sc ⟨512 * k.val + e.val, by omega⟩ : ℝ) : EReal) := by
  have hz : ∀ j, xz x B P j = ((if h : 8 ≤ P ∧ P < 8200 then X B ⟨P - 8, by omega⟩ j else 0 : ℝ) : EReal) := fun j => by
    unfold xz
    split
    · exact hX _ _ _
    · exact EReal.coe_zero.symm
  have hf : ∀ j : Fin 1024, folded wi2 G s2 (ix2 j ⟨1024 * k.val + e.val, by omega⟩)
      = (((∑ d : Fin 512, Wi j ⟨512 * k.val + d.val, by omega⟩ * Gr k d e) * Sc ⟨512 * k.val + e.val, by omega⟩ : ℝ) : EReal) := fun j => by
    rw [folded_low wi2 G s2 _ j k e rfl rfl, foldE, hs, hSc, EReal.coe_mul, coe_sum]
    exact congrArg (· * _) (Finset.sum_congr rfl fun d _ => by rw [hw, hWi, hG, hGr, EReal.coe_mul])
  unfold uA
  simp only [hz, hf, ← EReal.coe_mul, ← coe_sum]
  congr 1
  simp only [← mul_assoc]
  rw [← Finset.sum_mul]
  congr 1
  simp only [Finset.mul_sum]
  rw [Finset.sum_comm]
  refine Finset.sum_congr rfl fun d _ => ?_
  simp only [← mul_assoc]
  rw [← Finset.sum_mul]
  congr 1
  unfold rowX
  by_cases h8 : 8 ≤ P
  · by_cases hP : P < 8200
    · rw [if_pos h8, dif_pos (show P - 8 < 8192 by omega)]
      exact Finset.sum_congr rfl fun j _ => by rw [dif_pos ⟨h8, hP⟩]
    · rw [if_pos h8, dif_neg (show ¬ P - 8 < 8192 by omega)]
      exact Finset.sum_eq_zero fun j _ => by rw [dif_neg (fun h => hP h.2), zero_mul]
  · rw [if_neg h8]
    exact Finset.sum_eq_zero fun j _ => by rw [dif_neg (fun h => h8 h.1), zero_mul]

include hw in
/-- The gate is the same sum in both programs. -/
theorem gA_eq (B : Fin 8) (t : Fin 8192) (k : Fin 4) (e : Fin 512) : gA x (folded wi2 G s2) B t k e = gR x wi B t k e := by
  unfold gA gR dotR
  refine Finset.sum_congr rfl fun j _ => ?_
  rw [folded_high wi2 G s2 _ j k e rfl rfl, gateE, hw]

include hX hWi in
theorem gR_eq (B : Fin 8) (t : Fin 8192) (k : Fin 4) (e : Fin 512) :
    gR x wi B t k e = ((∑ j, X B t j * Wi j ⟨2048 + (512 * k.val + e.val), by omega⟩ : ℝ) : EReal) := by
  unfold gR dotR
  rw [coe_sum]
  exact Finset.sum_congr rfl fun j _ => by rw [hX, hWi, EReal.coe_mul]

/-- The two ways to write the gate's activation. -/
theorem silu_eq (r : ℝ) : siluE (r : EReal) = (r : EReal) * Ideal.div 1 (1 + Ideal.exp (-(r : EReal))) := by
  have hy : (1 + Real.exp (-r)) ≠ 0 := by positivity
  unfold siluE
  rw [zero_sub, ← EReal.coe_neg, Ideal.exp_coe, ← EReal.coe_one, ← EReal.coe_add, Ideal.div_coe hy, Ideal.div_coe hy, ← EReal.coe_mul, ← EReal.coe_mul,
    ← EReal.coe_mul, one_mul]

include hw hG hs hX hWi hGr hSc in
/-- A gated element of a group is the same in both programs. -/
theorem mix_eq (B : Fin 8) (t : Fin 8192) (k : Fin 4) (h : ℕ) (h0 : 0 < h) (hh : h ≤ 8) (e : Fin 512) :
    mixA x (folded wi2 G s2) B t k h e = mixR x wi gr sc B t k h (2 * h) e := by
  have ht := t.isLt
  have hc : (((min (t.val + h) 8192 - (t.val - h) : ℕ) : ℕ) : ℝ) ≠ 0 := Nat.cast_ne_zero.2 (by omega)
  unfold mixA mixR
  rw [gA_eq hw, gR_eq hX hWi, silu_eq]
  congr 1
  unfold cntN zR yR
  rw [cntW_eq t.val h ht hh, hSc]
  simp only [uA_eq hw hG hs hX hWi hGr hSc, cumR_eq hX hWi, uR_eq hX hWi, hGr]
  rw [Ideal.div_coe hc, ← EReal.coe_one]
  simp only [Ideal.div_coe hc, ← EReal.coe_mul, ← coe_sum, ← EReal.coe_sub]
  refine congrArg _ (Eq.trans ?_ (window_eq (fun d s => rowX (X B) Wi k d s) (fun d s hs => ?_) (fun d => Gr k d e) _ _ t.val h hh))
  · simp only [show 8 ≤ 8 + t.val by omega, if_true, Nat.add_sub_cancel_left]
  · rw [rowX, dif_neg (by omega)]

variable {wo : FVec Ideal ReferenceIdeal.S1x2048x1024 .f32} {wo2 : FVec Ideal KernelIdeal.S2048x1024 .bf16}
  {g b : FVec Ideal ReferenceIdeal.S2x1024 .f32} {g2 b2 : FVec Ideal KernelIdeal.S1x1024 .f32}
  (hwo : ∀ l n, wo2 (ix2 l n) = wo (ix3 0 l n)) (hg : ∀ n, g2 (ix2 0 n) = g (ix2 0 n)) (hb : ∀ n, b2 (ix2 0 n) = b (ix2 0 n))

include hw hG hs hX hWi hGr hSc hwo hg hb in
/-- An element of the layer is the same in both programs. -/
theorem pool_eq (B : Fin 8) (t : Fin 8192) (n : Fin 1024) :
    poolE x (folded wi2 G s2) wo2 g2 b2 B t n = refE x wi gr sc wo g b B t n := by
  have hh : ∀ n, hA x (folded wi2 G s2) wo2 B t n = hR x wi gr sc wo B t n := fun n => by
    unfold hA hR
    simp only [hwo, mix_eq hw hG hs hX hWi hGr hSc B t 0 1 (by omega) (by omega), mix_eq hw hG hs hX hWi hGr hSc B t 1 2 (by omega) (by omega),
      mix_eq hw hG hs hX hWi hGr hSc B t 2 4 (by omega) (by omega), mix_eq hw hG hs hX hWi hGr hSc B t 3 8 (by omega) (by omega)]
  unfold poolE refE
  rw [hg, hb]
  simp only [hh]
  rfl

end Arrays

end Cert.Equal

end
-- ==== Proof.Finite.lean ====
/-
  What the precondition says: every element of an array whose absolute values are all below infinity is a real number.
-/
module

public import proofs.«01_k».proof.Defs
public import proofs.«01_k».proof.Proof.Gen.Pre_finite
public import Idealize.ShloMosaic.Lib.ReduceAll
public import Idealize.ShloMosaic.Lib.KernelVsHost
public import Idealize.ShloMosaic.Lib.Affine

@[expose] public section

noncomputable section

namespace Cert.Finite

open Idealize.ShloMosaic Cert.Pre_finite Cert.Pre_finite.Facts

theorem real_of_lt (x : Ideal .f32)
    (h : FloatOps.cmpf .olt (FloatOps.hostAbsf x) (FloatOps.ofBits (F := Ideal) .f32 0x7F800000#32) = 1#1) :
    x = ((EReal.toReal x : ℝ) : EReal) := by
  rw [← Ideal.xori_weird_eq_hostAbsf_olt_inf] at h
  have hw : ¬ ((x : EReal) = ⊤ ∨ (x : EReal) = ⊥) := fun hx => by
    have e : FloatOps.weird x = 1#1 := by
      show BitVec.ofBool (decide ((x : EReal) = ⊤ ∨ (x : EReal) = ⊥)) = 1#1
      rw [decide_eq_true hx]; rfl
    rw [e] at h
    exact absurd h (by decide)
  push Not at hw
  exact (EReal.coe_toReal hw.1 hw.2).symm

/-- `jnp.all(jnp.abs(x) < jnp.inf)` that is 1 makes every element of `x` a real number. -/
theorem all_real {s t u z : Shape} {axes : List (Fin s.rank)} [Subsingleton t.Idx] (x : FVec Ideal s .f32) (d : Fin z.rank → Fin s.rank)
    (hb : z.BroadcastsInDim s d) (init : u.Idx → BitVec 1) (h : s.ReducesTo axes t) (hu : 0 < u.numel) (j : t.Idx)
    (e : Host.reduce IntOp.andi (cmpf .olt (Host.absf x) (broadcastInDim s d hb (constant (F := Ideal) z .f32 0x7F800000#32))) init h hu j = 1#1)
    (i : s.Idx) : x i = ((EReal.toReal (x i) : ℝ) : EReal) :=
  real_of_lt _ (Host.reduce_andi_all _ _ _ _ j e i)

variable [Pre_finite.Facts]

/-- The precondition of the layer: its four arrays are arrays of real numbers. -/
theorem reals (x : FVec Ideal S8x8192x1024 .f32) (wi : FVec Ideal S1x1024x4096 .f32) (gr : FVec Ideal S1x4x512x512 .f32)
    (sc : FVec Ideal S1x2048 .f32) (wo : FVec Ideal S1x2048x1024 .f32) (g b : FVec Ideal S2x1024 .f32)
    (h : fn (F := Ideal) x wi gr sc wo g b = fun _ => 1#1) :
    (∀ i, x i = ((EReal.toReal (x i) : ℝ) : EReal)) ∧ (∀ i, wi i = ((EReal.toReal (wi i) : ℝ) : EReal))
      ∧ (∀ i, gr i = ((EReal.toReal (gr i) : ℝ) : EReal)) ∧ (∀ i, sc i = ((EReal.toReal (sc i) : ℝ) : EReal)) := by
  have h0 := congrFun h (fun a => nomatch a)
  unfold fn fn_part1 at h0
  obtain ⟨h1, hs⟩ := IntOp.andi_eq_one.1 h0
  obtain ⟨h2, hg⟩ := IntOp.andi_eq_one.1 h1
  obtain ⟨hx, hw⟩ := IntOp.andi_eq_one.1 h2
  exact ⟨all_real x _ _ _ _ _ _ hx, all_real wi _ _ _ _ _ _ hw, all_real gr _ _ _ _ _ _ hg, all_real sc _ _ _ _ _ _ hs⟩

end Cert.Finite

end
-- ==== Proof.InProj.Array.lean ====
/-
  The projection's four result arrays over the reals. Each is a sum of products of a row of the input with a column of the
  weights: columns `0 … 1023` make the queries, scaled, the next 1024 the keys, the next the values, the last the gate.
-/
module

public import proofs.«01_k».proof.Proof.Gen.InProjIdeal.Value
public import Idealize.ShloMosaic.Lib.Pipeline.ValueKit

@[expose] public section

set_option maxRecDepth 16384

noncomputable section

namespace Cert.InProjIdeal.Proj

open Idealize.ShloMosaic Idealize.ShloMosaic.TcCoe Idealize.SL.Sem
open Idealize.ShloMosaic.Pipeline (Dat)
open Cert.InProjIdeal Cert.InProjIdeal.Gen Cert.InProjIdeal.Value

section Function

variable (x : FVec Ideal S8x8192x1024 .f32) (w : FVec Ideal S1024x4096 .bf16)

/-- Element `n` of token `t` of sequence `B`, projected. -/
def projE (B : Fin 8) (t : Fin 8192) (n : Fin 4096) : EReal := ∑ j : Fin 1024, x (ix3 B t j) * w (ix2 j n)

/-- The scale of the queries. -/
def scale : EReal := (((Real.sqrt 32)⁻¹ * (Real.log 2)⁻¹ : ℝ) : EReal)

/-- The queries, in four groups of 256 columns. -/
def queries : FVec Ideal S8x4x8192x256 .bf16 := fun i =>
  projE x w ⟨(i 0).val, (i 0).isLt⟩ ⟨(i 2).val, (i 2).isLt⟩
    ⟨(i 1).val * 256 + (i 3).val, by have h1 : (i 1).val < 4 := (i 1).isLt; have h3 : (i 3).val < 256 := (i 3).isLt; omega⟩ * scale

/-- The keys, in four groups of 256 columns. -/
def keys : FVec Ideal S8x4x8192x256 .bf16 := fun i =>
  projE x w ⟨(i 0).val, (i 0).isLt⟩ ⟨(i 2).val, (i 2).isLt⟩
    ⟨1024 + ((i 1).val * 256 + (i 3).val), by have h1 : (i 1).val < 4 := (i 1).isLt; have h3 : (i 3).val < 256 := (i 3).isLt; omega⟩

/-- The values, in four groups of 256 columns. -/
def values : FVec Ideal S8x4x8192x256 .bf16 := fun i =>
  projE x w ⟨(i 0).val, (i 0).isLt⟩ ⟨(i 2).val, (i 2).isLt⟩
    ⟨2048 + ((i 1).val * 256 + (i 3).val), by have h1 : (i 1).val < 4 := (i 1).isLt; have h3 : (i 3).val < 256 := (i 3).isLt; omega⟩

/-- The gate. -/
def gate : FVec Ideal S8x8192x1024 .f32 := fun i =>
  projE x w ⟨(i 0).val, (i 0).isLt⟩ ⟨(i 1).val, (i 1).isLt⟩
    ⟨3072 + (i 2).val, by have h2 : (i 2).val < 1024 := (i 2).isLt; omega⟩

theorem projE_congr {B B' : Fin 8} {t t' : Fin 8192} {n n' : Fin 4096} (hB : B.val = B'.val) (ht : t.val = t'.val)
    (hn : n.val = n'.val) : projE x w B t n = projE x w B' t' n' := by
  rw [Fin.ext hB, Fin.ext ht, Fin.ext hn]

end Function

/-- The named constant is the scale. -/
theorem scale_named : Named.named (F := Ideal) Cert.InProjIdeal.κ "q_scale" (φ := .f32) 0x3E8293EE#32 = scale :=
  IdealRules.named_const.ideal_named_scalar _ _ _ _ rfl

/-- A block's product at an index. -/
theorem prod_at (P0 : FVec Ideal S1x512x1024 .f32) (P1 : FVec Ideal S1024x4096 .bf16) (p : Fin 512) (n : Fin 4096) :
    k0_pay4 P0 P1 (ix2 p n) = ∑ j : Fin 1024, P0 (ix3 0 p j) * P1 (ix2 j n) := by
  pointwise [k0_pay4]

variable (m : (ℓ : Loc nD τ sig) → Buf (Elt Ideal) ℓ)

/-- Where each window's block lies at every grid point. -/
theorem idx0 : ∀ t : Fin cfg0.N, win0_0.index t = ![t.val / 16, t.val % 16, 0] ∧ win0_1.index t = ![0, 0]
    ∧ win0_2.index t = ![t.val / 16, 0, t.val % 16, 0] ∧ win0_3.index t = ![t.val / 16, 0, t.val % 16, 0]
    ∧ win0_4.index t = ![t.val / 16, 0, t.val % 16, 0] ∧ win0_5.index t = ![t.val / 16, t.val % 16, 0] ∧ t.val < 128 :=
  (by decide +kernel : ∀ t : Fin grid0.N, _)

/-- The input's block at a grid point. -/
theorem input_at (Y : FVec Ideal S8x8192x1024 .f32) (t : Fin cfg0.N) (p : Fin 512) (j : Fin 1024) :
    View.ld (Val := Elt Ideal) (((cfg0.win 0).blk t).view.read (Elt Ideal) Y) r0_0 (ix3 0 p j)
      = Y (ix3 ⟨t.val / 16, by have := (idx0 t).2.2.2.2.2.2; omega⟩ ⟨512 * (t.val % 16) + p.val, by omega⟩ j) := by
  have ht := (idx0 t).2.2.2.2.2.2
  pointwise
  blk_point [idx0 t]

/-- The weights' block is the weights. -/
theorem weights_at (W : FVec Ideal S1024x4096 .bf16) (t : Fin cfg0.N) (j : Fin 1024) (n : Fin 4096) :
    View.ld (Val := Elt Ideal) (((cfg0.win 1).blk t).view.read (Elt Ideal) W) r0_1 (ix2 j n) = W (ix2 j n) := by
  pointwise
  blk_point [idx0 t]

section Arrays

variable (c : Dev nD) (X : FVec Ideal S8x8192x1024 .f32) (W : FVec Ideal S1024x4096 .bf16)
  (hX : V m c main_arg0 = X) (hW : V m c main_v1 = W)

include hX hW

/-- A block's product at a grid point. -/
theorem block_at (t : Fin cfg0.N) (p : Fin 512) (n : Fin 4096) :
    k0_pay4 (View.ld (iblk m c 0 t) r0_0) (View.ld (iblk m c 1 t) r0_1) (ix2 p n)
      = projE X W ⟨t.val / 16, by have := (idx0 t).2.2.2.2.2.2; omega⟩ ⟨512 * (t.val % 16) + p.val, by omega⟩ n := by
  have h0 : iblk m c 0 t = ((cfg0.win 0).blk t).view.read (Elt Ideal) X := congrArg _ hX
  have h1 : iblk m c 1 t = ((cfg0.win 1).blk t).view.read (Elt Ideal) W := congrArg _ hW
  rw [h0, h1]
  exact (prod_at _ _ p n).trans (Finset.sum_congr rfl fun j _ => congrArg₂ (· * ·) (input_at X t p j) (weights_at W t j n))

/-- The first result array holds the queries. -/
theorem queries_final : (dats m 0 c).arrAt 2 cfg0.N = queries X W := by
  refine (dats m 0 c).arrAt_eq_of_covers 2 _ (by decide +kernel) fun t _ y => ?_
  blk_simp
  rw [after0_2]
  refine (canon2_eq _ _ _).trans ?_
  have h := block_at m c X W hX hW t
  have ht := (idx0 t).2.2.2.2.2.2
  have y0 : (y 0).val < 1 := (y 0).isLt
  have y1 : (y 1).val < 4 := (y 1).isLt
  have y2 : (y 2).val < 512 := (y 2).isLt
  have y3 : (y 3).val < 256 := (y 3).isLt
  have e : ix2_0 y = ix2 ⟨(y 2).val, y2⟩ ⟨(y 1).val * 256 + (y 3).val, by omega⟩ :=
    funext fun a => match a with | ⟨0, _⟩ => rfl | ⟨1, _⟩ => rfl
  show k0_pay4 _ _ (ix2_0 y) * Named.named Cert.InProjIdeal.κ "q_scale" 0x3E8293EE#32 = _
  rw [scale_named, e]
  unfold queries
  refine congrArg (· * scale) ((h _ _).trans (projE_congr X W ?_ ?_ ?_)) <;> blk_simp [idx0 t] <;> (try dsimp only) <;> omega

/-- The second result array holds the keys. -/
theorem keys_final : (dats m 0 c).arrAt 3 cfg0.N = keys X W := by
  refine (dats m 0 c).arrAt_eq_of_covers 3 _ (by decide +kernel) fun t _ y => ?_
  blk_simp
  rw [after0_3]
  refine (canon3_eq _ _ _).trans ?_
  have h := block_at m c X W hX hW t
  have ht := (idx0 t).2.2.2.2.2.2
  have y0 : (y 0).val < 1 := (y 0).isLt
  have y1 : (y 1).val < 4 := (y 1).isLt
  have y2 : (y 2).val < 512 := (y 2).isLt
  have y3 : (y 3).val < 256 := (y 3).isLt
  have e : ix3_0 y = ix2 ⟨(y 2).val, y2⟩ ⟨(y 1).val * 256 + (y 3).val + 1024, by omega⟩ :=
    funext fun a => match a with | ⟨0, _⟩ => rfl | ⟨1, _⟩ => rfl
  show k0_pay4 _ _ (ix3_0 y) = _
  rw [e]
  unfold keys
  refine (h _ _).trans (projE_congr X W ?_ ?_ ?_) <;> blk_simp [idx0 t] <;> (try dsimp only) <;> omega

/-- The third result array holds the values. -/
theorem values_final : (dats m 0 c).arrAt 4 cfg0.N = values X W := by
  refine (dats m 0 c).arrAt_eq_of_covers 4 _ (by decide +kernel) fun t _ y => ?_
  blk_simp
  rw [after0_4]
  refine (canon4_eq _ _ _).trans ?_
  have h := block_at m c X W hX hW t
  have ht := (idx0 t).2.2.2.2.2.2
  have y0 : (y 0).val < 1 := (y 0).isLt
  have y1 : (y 1).val < 4 := (y 1).isLt
  have y2 : (y 2).val < 512 := (y 2).isLt
  have y3 : (y 3).val < 256 := (y 3).isLt
  have e : ix4_0 y = ix2 ⟨(y 2).val, y2⟩ ⟨(y 1).val * 256 + (y 3).val + 2048, by omega⟩ :=
    funext fun a => match a with | ⟨0, _⟩ => rfl | ⟨1, _⟩ => rfl
  show k0_pay4 _ _ (ix4_0 y) = _
  rw [e]
  unfold values
  refine (h _ _).trans (projE_congr X W ?_ ?_ ?_) <;> blk_simp [idx0 t] <;> (try dsimp only) <;> omega

/-- The fourth result array holds the gate. -/
theorem gate_final : (dats m 0 c).arrAt 5 cfg0.N = gate X W := by
  refine (dats m 0 c).arrAt_eq_of_covers 5 _ (by decide +kernel) fun t _ y => ?_
  blk_simp
  rw [after0_5]
  refine (canon5_eq _ _ _).trans ?_
  have h := block_at m c X W hX hW t
  have ht := (idx0 t).2.2.2.2.2.2
  have y0 : (y 0).val < 1 := (y 0).isLt
  have y1 : (y 1).val < 512 := (y 1).isLt
  have y2 : (y 2).val < 1024 := (y 2).isLt
  have e : ix5_0 y = ix2 ⟨(y 1).val, y1⟩ ⟨(y 2).val + 3072, by omega⟩ :=
    funext fun a => match a with | ⟨0, _⟩ => rfl | ⟨1, _⟩ => rfl
  show k0_pay4 _ _ (ix5_0 y) = _
  rw [e]
  unfold gate
  refine (h _ _).trans (projE_congr X W ?_ ?_ ?_) <;> blk_simp [idx0 t] <;> (try dsimp only) <;> omega

end Arrays

end Cert.InProjIdeal.Proj

end
-- ==== Proof.InProj.Consts.lean ====
/-
  The constants of the projection's reference, as the reals they denote.
-/
module

public import Idealize.ShloMosaic.PureOps.Ideal

@[expose] public section

noncomputable section

namespace Cert.InProjReferenceIdeal.Proj

open Idealize.ShloMosaic

/-- The number of columns of a head. -/
theorem ofBits_32 : Ideal.ofBits .f32 0x42000000#32 = ((32 : ℝ) : EReal) := by
  simp [Ideal.ofBits, Ideal.ieee, -EReal.coe_mul]; norm_num

/-- The two whose logarithm is taken. -/
theorem ofBits_2 : Ideal.ofBits .f32 0x40000000#32 = ((2 : ℝ) : EReal) := by
  simp [Ideal.ofBits, Ideal.ieee, -EReal.coe_mul]; norm_num

/-- Dividing by the root of 32, then by the logarithm of 2, is one product, for every extended real. -/
theorem div_div (y : EReal) : Ideal.div (Ideal.div y (Ideal.sqrt (Ideal.ofBits .f32 0x42000000#32))) (Ideal.log (Ideal.ofBits .f32 0x40000000#32))
    = y * (((Real.sqrt 32)⁻¹ * (Real.log 2)⁻¹ : ℝ) : EReal) := by
  have hs : Real.sqrt 32 ≠ 0 := (Real.sqrt_pos.mpr (by norm_num)).ne'
  have hl : Real.log 2 ≠ 0 := (Real.log_pos (by norm_num)).ne'
  rw [ofBits_32, ofBits_2, Ideal.sqrt_coe, Ideal.log_coe, if_neg (by norm_num), if_neg (by norm_num), Ideal.div_coe hs,
    Ideal.div_coe hl, one_div, one_div, mul_assoc, ← EReal.coe_mul]

end Cert.InProjReferenceIdeal.Proj

end
-- ==== Proof.InProj.Reference.lean ====
/-
  What the projection's reference computes, element by element: one product of the input with the weights, cut into queries,
  keys, values and gate, the first three split into four groups of 256 columns.
-/
module

public import proofs.«01_k».proof.Proof.Gen.InProjReferenceIdeal
public import proofs.«01_k».proof.Proof.InProj.Consts
public import Idealize.ShloMosaic.Lib.Pipeline.ValueKit

@[expose] public section

set_option maxRecDepth 16384

noncomputable section

namespace Cert.InProjReferenceIdeal.Proj

open Idealize.ShloMosaic Idealize.ShloMosaic.TcCoe Idealize.SL.Sem
open Cert.InProjReferenceIdeal Cert.InProjReferenceIdeal.Gen Idealize.ShloMosaic.StableHlo

/-- The product of the input with the weights. -/
abbrev proj (x : FVec Ideal S8x8192x1024 .f32) (w : FVec Ideal S1x1024x4096 .f32) : FVec Ideal S8x8192x4096 .f32 :=
  Host.dotGeneral dot_S8x8192x1024_S1024x4096_S8x8192x4096_2_0_01_1_n_n none x (shapeCast S1024x4096 w shapeCasts_S1x1024x4096_S1024x4096)

theorem proj_at (x : FVec Ideal S8x8192x1024 .f32) (w : FVec Ideal S1x1024x4096 .f32) (B : Fin 8) (t : Fin 8192) (n : Fin 4096) :
    proj x w (ix3 B t n) = ∑ j : Fin 1024, x (ix3 B t j) * w (ix3 0 j n) := by
  pointwise [proj]

variable (D : FVec Ideal S8x8192x4096 .f32)

/-- The four groups of a part of the product. -/
abbrev groups (A : FVec Ideal S8x8192x1024 .f32) : FVec Ideal S8x4x8192x256 .bf16 :=
  truncf .bf16 (transpose S8x4x8192x256 [0, 2, 1, 3] (shapeCast S8x8192x4x256 A shapeCasts_S8x8192x1024_S8x8192x4x256)
    transposes_S8x8192x4x256_S8x4x8192x256_0_2_1_3) bitsLt_bf16_f32

theorem groups_at (A : FVec Ideal S8x8192x1024 .f32) (B : Fin 8) (k : Fin 4) (t : Fin 8192) (l : Fin 256) :
    groups A (ix4 B k t l) = A (ix3 B t ⟨k.val * 256 + l.val, by omega⟩) := by
  pointwise [groups]

abbrev partQ : FVec Ideal S8x8192x1024 .f32 :=
  Host.divf (Host.divf (extractStridedSlice S8x8192x1024 ![0, 0, 0] D slices_S8x8192x4096_S8x8192x1024_0_0_0)
    (broadcastInDim S8x8192x1024 ![] bcast_S_S8x8192x1024 (Host.sqrt (constant S_ .f32 0x42000000#32))))
    (broadcastInDim S8x8192x1024 ![] bcast_S_S8x8192x1024 (Host.log (constant S_ .f32 0x40000000#32)))

abbrev partK : FVec Ideal S8x8192x1024 .f32 := extractStridedSlice S8x8192x1024 ![0, 0, 1024] D slices_S8x8192x4096_S8x8192x1024_0_0_1024
abbrev partV : FVec Ideal S8x8192x1024 .f32 := extractStridedSlice S8x8192x1024 ![0, 0, 2048] D slices_S8x8192x4096_S8x8192x1024_0_0_2048
abbrev partG : FVec Ideal S8x8192x1024 .f32 := extractStridedSlice S8x8192x1024 ![0, 0, 3072] D slices_S8x8192x4096_S8x8192x1024_0_0_3072

theorem partQ_at (B : Fin 8) (t : Fin 8192) (n : Fin 1024) :
    partQ D (ix3 B t n) = D (ix3 B t ⟨n.val, by omega⟩) * (((Real.sqrt 32)⁻¹ * (Real.log 2)⁻¹ : ℝ) : EReal) := by
  rw [← div_div]
  pointwise [partQ]

theorem partK_at (B : Fin 8) (t : Fin 8192) (n : Fin 1024) : partK D (ix3 B t n) = D (ix3 B t ⟨1024 + n.val, by omega⟩) := by
  pointwise [partK]
theorem partV_at (B : Fin 8) (t : Fin 8192) (n : Fin 1024) : partV D (ix3 B t n) = D (ix3 B t ⟨2048 + n.val, by omega⟩) := by
  pointwise [partV]
theorem partG_at (B : Fin 8) (t : Fin 8192) (n : Fin 1024) : partG D (ix3 B t n) = D (ix3 B t ⟨3072 + n.val, by omega⟩) := by
  pointwise [partG]

end Cert.InProjReferenceIdeal.Proj

end
-- ==== Proof.InProj.Claims.lean ====
/-
  The projection's claims: it runs, leaves its arguments unchanged, and over the reals gives the four arrays of the plain
  reference, for all inputs and weights.
-/
module

public import proofs.«01_k».proof.Defs
public import proofs.«01_k».proof.Proof.Gen.InProj.Frame
public import proofs.«01_k».proof.Proof.Gen.InProjReferenceIdeal.Run
public import proofs.«01_k».proof.Proof.InProj.Array
public import proofs.«01_k».proof.Proof.InProj.Reference

@[expose] public section

set_option maxRecDepth 16384

noncomputable section

namespace Cert.Proof.InProjClaims

open Idealize.ShloMosaic Idealize.ShloMosaic.TcCoe Idealize.SL.Sem
open Idealize.ShloMosaic.StableHlo Cert.InProjIdeal.Proj Cert.InProjReferenceIdeal.Proj

theorem frame_p : Cert.quiescent_InProj (hInProj := Cert.InProj.Gen.facts) := fun m ρ _ => Cert.InProj.Gen.frame m ρ

theorem frame_pi : Cert.quiescent_InProjIdeal (hInProjIdeal := Cert.InProjIdeal.Gen.facts) := fun m ρ _ => Cert.InProjIdeal.Gen.frame m ρ

theorem frame_ri : Cert.quiescent_InProjReferenceIdeal (hInProjReferenceIdeal := Cert.InProjReferenceIdeal.Gen.facts) := fun m ρ _ =>
  (θ_run (Cert.InProjReferenceIdeal.defs (F := Ideal)) _ _).mono (fun r h => ⟨fun c => ⟨(h c).2.2.2.2.1, (h c).2.2.2.2.2⟩, sem_eq_zero_of_no_sems (by decide) r.2⟩)
    (Cert.InProjReferenceIdeal.Value.run (F := Ideal) m ρ)

/-- The scale of the queries is the named real. -/
theorem preserves : Cert.preserves_InProj_InProjIdeal :=
  IdealRules.named_const.statement Cert.InProjIdeal.κ "q_scale" .f32 0x3E8293EE#32 (((Real.sqrt 32)⁻¹ * (Real.log 2)⁻¹ : ℝ) : EReal) rfl

section Elements

variable (x : FVec Ideal InProjReferenceIdeal.S8x8192x1024 .f32) (w : FVec Ideal InProjReferenceIdeal.S1x1024x4096 .f32)

/-- The weights as the kernel finds them. -/
abbrev flat : FVec Ideal InProjIdeal.S1024x4096 .bf16 :=
  truncf .bf16 (shapeCast InProjIdeal.S1024x4096 w InProjIdeal.Gen.shapeCasts_S1x1024x4096_S1024x4096) InProjIdeal.Gen.bitsLt_bf16_f32

theorem flat_at (j : Fin 1024) (n : Fin 4096) : flat w (ix2 j n) = w (ix3 0 j n) := by
  pointwise [flat]

/-- One element of the product. -/
theorem same_at (B : Fin 8) (t : Fin 8192) (n : Fin 4096) : proj x w (ix3 B t n) = projE x (flat w) B t n :=
  (proj_at x w B t n).trans (Finset.sum_congr rfl fun j _ => congrArg (x (ix3 B t j) * ·) (flat_at w j n).symm)

theorem queries_eq : groups (partQ (proj x w)) = queries x (flat w) := by
  funext i
  rw [eq_ix4 i]
  refine (groups_at _ _ _ _ _).trans ((partQ_at _ _ _ _).trans ?_)
  exact congrArg (· * _) (same_at x w _ _ _)

theorem keys_eq : groups (partK (proj x w)) = keys x (flat w) := by
  funext i
  rw [eq_ix4 i]
  exact (groups_at _ _ _ _ _).trans ((partK_at _ _ _ _).trans (same_at x w _ _ _))

theorem values_eq : groups (partV (proj x w)) = values x (flat w) := by
  funext i
  rw [eq_ix4 i]
  exact (groups_at _ _ _ _ _).trans ((partV_at _ _ _ _).trans (same_at x w _ _ _))

theorem gate_eq : partG (proj x w) = gate x (flat w) := by
  funext i
  rw [eq_ix3 i]
  exact (partG_at _ _ _ _).trans (same_at x w _ _ _)

end Elements

/-- The weights the kernel's region finds. -/
theorem weights_entry (m : (ℓ : Loc InProjIdeal.nD InProjIdeal.τ InProjIdeal.sig) → Buf (Elt Ideal) ℓ) (c : Dev InProjIdeal.nD) :
    InProjIdeal.Gen.V m c InProjIdeal.main_v1 = flat (m ((c.tc : Thread InProjIdeal.nD InProjIdeal.τ).loc InProjIdeal.main_arg1)) := by
  show StableHlo.after InProjIdeal.Gen.hostOps0 (fun b => m (c, b)) (Proc.devRef .tc InProjIdeal.main_v1) = _
  after_results
  try rfl

/-- Over the reals the kernel's four arrays are the reference's. -/
theorem value : Cert.algebraic_InProjIdeal_InProjReferenceIdeal (hInProjIdeal := Cert.InProjIdeal.Gen.facts)
    (hInProjReferenceIdeal := Cert.InProjReferenceIdeal.Gen.facts) := by
  intro m g m' g' _ he
  refine ⟨_, _, _, _, Cert.InProjIdeal.Value.run_blocks (F := Ideal) m g, ?_⟩
  refine (θ_run (Cert.InProjReferenceIdeal.defs (F := Ideal)) _ _).mono (fun _ h c => ?_)
    (Cert.InProjReferenceIdeal.Value.run (F := Ideal) m' g')
  obtain ⟨h0, h1, h2, h3, h4⟩ := h c
  obtain ⟨e0, e1⟩ := he c
  have hX := InProjIdeal.Gen.V_main_arg0 m c
  have hW := weights_entry m c
  refine ⟨h0.trans ?_, h1.trans ?_, h2.trans ?_, h3.trans ?_, h4⟩
  · rw [e0, e1]; exact (queries_eq _ _).trans (queries_final m c _ _ hX hW).symm
  · rw [e0, e1]; exact (keys_eq _ _).trans (keys_final m c _ _ hX hW).symm
  · rw [e0, e1]; exact (values_eq _ _).trans (values_final m c _ _ hX hW).symm
  · rw [e0, e1]; exact (gate_eq _ _).trans (gate_final m c _ _ hX hW).symm

end Cert.Proof.InProjClaims

end
-- ==== Proof.Bias.Words.lean ====
/-
  The words of the bias table's mask: which of 32 key columns lie in the window of 16 columns around each of 64 queries.
-/
module

public import proofs.«01_k».proof.Proof.Gen.BiasTableIdeal.Skeleton
public import Idealize.ShloMosaic.Lib.Pipeline.ValueKit

@[expose] public section

set_option maxRecDepth 16384

noncomputable section

namespace Cert.BiasTableIdeal.Bias

open Idealize.ShloMosaic Idealize.ShloMosaic.TcCoe Idealize.SL.Sem
open Cert.BiasTableIdeal Cert.BiasTableIdeal.Gen

/-- The first key column of the queries that `q` lies among. -/
def first (q : ℕ) : ℕ := if 40 ≤ q then 32 else if 24 ≤ q then 16 else 0

/-- The first column of the window of query `q`. -/
def start (q : ℕ) : ℕ := min (q - 8) 48

/-- Whether key `k` lies in the window of query `q`. -/
def inside (q k : ℕ) : Bool := start q ≤ first q + k && first q + k < start q + 16

/-- The kernel's mask is the window. -/
theorem mask_word : ∀ (q : Fin 64) (l : Fin 128),
    k0_pay6 k0_pay4 k0_pay5 (ix2 q l) = if inside q.val (l.val % 32) then 1#1 else 0#1 := by
  decide +kernel

/-- The comparisons that choose a query's first key column. -/
theorem sge_word : ∀ q : Fin 64, IntOp.cmpi .sge (BitVec.ofNat 32 q.val) 40#32 = (if 40 ≤ q.val then 1#1 else 0#1)
    ∧ IntOp.cmpi .sge (BitVec.ofNat 32 q.val) 24#32 = (if 24 ≤ q.val then 1#1 else 0#1)
    ∧ IntOp.cmpi .sge (BitVec.ofNat 32 q.val) 0#32 = 1#1 := by
  decide +kernel

end Cert.BiasTableIdeal.Bias

end
-- ==== Proof.Bias.Array.lean ====
/-
  The bias table's array over the reals. Row `q` of a head's table holds, at key `k` of each of four windows' rows, the
  relative bias of the key's column to the query's where the key lies in the query's window of columns, and minus infinity
  elsewhere.
-/
module

public import proofs.«01_k».proof.Proof.Gen.BiasTableIdeal.Value
public import proofs.«01_k».proof.Proof.Bias.Words
public import Idealize.ShloMosaic.Lib.Pipeline.ValueKit

@[expose] public section

set_option maxRecDepth 16384

noncomputable section

namespace Cert.BiasTableIdeal.Bias

open Idealize.ShloMosaic Idealize.ShloMosaic.TcCoe Idealize.SL.Sem
open Idealize.ShloMosaic.Pipeline (Dat)
open Cert.BiasTableIdeal Cert.BiasTableIdeal.Gen Cert.BiasTableIdeal.Value

/-- The lane of a head's row of biases that key lane `l` of query `q` reads. -/
def lane (q : Fin 64) (l : Fin 128) : Fin 128 := ⟨(l.val + first q.val + 143 - q.val) % 128, Nat.mod_lt _ (by decide)⟩

/-- One over the logarithm of two. -/
def scale : EReal := (((Real.log 2)⁻¹ : ℝ) : EReal)

theorem scale_named : Named.named (F := Ideal) Cert.BiasTableIdeal.κ "log2_e" (φ := .f32) 0x3FB8AA3B#32 = scale :=
  IdealRules.named_const.ideal_named_scalar _ _ _ _ rfl

theorem mask_named : Named.named (F := Ideal) Cert.BiasTableIdeal.κ "mask" (φ := .f32) 0xF149F2CA#32 = (⊥ : EReal) :=
  IdealRules.named_const.ideal_named_scalar _ _ _ _ rfl

/-- One row of the window's tables, from a row of biases. -/
theorem pay_at (w : FVec Ideal S1x1x128 .f32) (q : Fin 64) (l : Fin 128) :
    k0_pay7 (iota .tc S64x128 32 [0] iota_S64x128_d0_w32) k0_pay4 k0_pay5 w (ix4 0 0 q l) =
      if inside q.val (l.val % 32) then w (ix3 0 0 (lane q l)) * scale else ⊥ := by
  pointwise [k0_pay7]
  obtain ⟨h1, h2, h3⟩ := sge_word q
  rw [mask_word, h1, h2, h3, scale_named, mask_named]
  by_cases hi : inside q.val (l.val % 32) = true
  · rw [if_pos hi, if_pos hi]
    refine (ValueIdx.select_one _ _).trans (congrArg (· * scale) ?_)
    by_cases h40 : 40 ≤ q.val
    · rw [if_pos h40]
      refine (ValueIdx.select_one _ _).trans (congrArg (fun j => w (ix3 0 0 j)) (Fin.ext ?_))
      have e : first q.val = 32 := if_pos h40
      show (l.val + 128 - (81 + q.val) % 128) % 128 = (l.val + first q.val + 143 - q.val) % 128
      rw [e]; omega
    · rw [if_neg h40]
      refine (ValueIdx.select_zero _ _).trans ?_
      by_cases h24 : 24 ≤ q.val
      · rw [if_pos h24]
        refine (ValueIdx.select_one _ _).trans (congrArg (fun j => w (ix3 0 0 j)) (Fin.ext ?_))
        have e : first q.val = 16 := (if_neg h40).trans (if_pos h24)
        show (l.val + 128 - (97 + q.val) % 128) % 128 = (l.val + first q.val + 143 - q.val) % 128
        rw [e]; omega
      · rw [if_neg h24]
        refine (ValueIdx.select_zero _ _).trans ?_
        refine (ValueIdx.select_one _ _).trans (congrArg (fun j => w (ix3 0 0 j)) (Fin.ext ?_))
        have e : first q.val = 0 := (if_neg h40).trans (if_neg h24)
        show (l.val + 128 - (113 + q.val) % 128) % 128 = (l.val + first q.val + 143 - q.val) % 128
        rw [e]; omega
  · rw [if_neg hi, if_neg hi]
    exact ValueIdx.select_zero _ _

section Array

variable (m : (ℓ : Loc nD τ sig) → Buf (Elt Ideal) ℓ)

/-- Where each window's block lies at every grid point. -/
theorem idx0 : ∀ t : Fin cfg0.N, win0_0.index t = ![t.val, 0, 0] ∧ win0_1.index t = ![t.val, 0, 0, 0] ∧ t.val < 32 :=
  (by decide +kernel : ∀ t : Fin grid0.N, _)

/-- The result array, from the rows of biases. -/
def table (Y : FVec Ideal S32x12x128 .f32) : FVec Ideal S32x12x64x128 .f32 := fun i =>
  if inside (i 2).val ((i 3).val % 32) then
    Y (ix3 ⟨(i 0).val, (i 0).isLt⟩ ⟨(i 1).val, (i 1).isLt⟩ (lane ⟨(i 2).val, (i 2).isLt⟩ ⟨(i 3).val, (i 3).isLt⟩)) * scale
  else ⊥

/-- An element of the result array. -/
theorem table_at (Y : FVec Ideal S32x12x128 .f32) (i : S32x12x64x128.Idx) (h : Fin 32) (d : Fin 12) (q : Fin 64) (l : Fin 128)
    (w : FVec Ideal S1x1x128 .f32) (hw : ∀ l' : Fin 128, w (ix3 0 0 l') = Y (ix3 h d l'))
    (h0 : (i 0).val = h.val) (h1 : (i 1).val = d.val) (h2 : (i 2).val = q.val) (h3 : (i 3).val = l.val) :
    table Y i = k0_pay7 (iota .tc S64x128 32 [0] iota_S64x128_d0_w32) k0_pay4 k0_pay5 w (ix4 0 0 q l) := by
  rw [pay_at, hw]
  unfold table
  rw [show (⟨(i 0).val, (i 0).isLt⟩ : Fin 32) = h from Fin.ext h0, show (⟨(i 1).val, (i 1).isLt⟩ : Fin 12) = d from Fin.ext h1,
    show (⟨(i 2).val, (i 2).isLt⟩ : Fin 64) = q from Fin.ext h2, show (⟨(i 3).val, (i 3).isLt⟩ : Fin 128) = l from Fin.ext h3, h2, h3]

/-- An index of one row of tables. -/
theorem index_eq (x : S1x1x64x128.Idx) : x = ix4 0 0 ⟨(x 2).val, (x 2).isLt⟩ ⟨(x 3).val, (x 3).isLt⟩ := by
  have h0 : (x 0).val < 1 := (x 0).isLt
  have h1 : (x 1).val < 1 := (x 1).isLt
  funext a
  fin_cases a
  · exact Fin.ext (by show (x 0).val = 0; omega)
  · exact Fin.ext (by show (x 1).val = 0; omega)
  · rfl
  · rfl

variable (c : Dev nD) (Y : FVec Ideal S32x12x128 .f32) (hY : V m c main_v38 = Y)

include hY

set_option maxHeartbeats 4000000 in
/-- The result array holds the table. -/
theorem table_final : (dats m 0 c).arrAt 1 cfg0.N = table Y := by
  refine (dats m 0 c).arrAt_eq_of_covers 1 _ (by decide +kernel) fun t _ y => ?_
  have ht : t.val < 32 := (idx0 t).2.2
  have hb : iblk m c 0 t = ((cfg0.win 0).blk t).view.read (Elt Ideal) Y := congrArg _ hY
  blk_simp
  rw [after0_1]; frame_out
  rw [hb]
  canon_tiles x hx
  · refine Eq.trans ?_ (table_at Y _ ⟨t.val, ht⟩ 11 ⟨(x 2).val, x2_lt⟩ ⟨(x 3).val, x3_lt⟩
      (View.ld (Val := Elt Ideal) (((cfg0.win 0).blk t).view.read (Elt Ideal) Y) r0_22) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 10 ⟨(x 2).val, x2_lt⟩ ⟨(x 3).val, x3_lt⟩
      (View.ld (Val := Elt Ideal) (((cfg0.win 0).blk t).view.read (Elt Ideal) Y) r0_20) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 9 ⟨(x 2).val, x2_lt⟩ ⟨(x 3).val, x3_lt⟩
      (View.ld (Val := Elt Ideal) (((cfg0.win 0).blk t).view.read (Elt Ideal) Y) r0_18) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 8 ⟨(x 2).val, x2_lt⟩ ⟨(x 3).val, x3_lt⟩
      (View.ld (Val := Elt Ideal) (((cfg0.win 0).blk t).view.read (Elt Ideal) Y) r0_16) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 7 ⟨(x 2).val, x2_lt⟩ ⟨(x 3).val, x3_lt⟩
      (View.ld (Val := Elt Ideal) (((cfg0.win 0).blk t).view.read (Elt Ideal) Y) r0_14) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 6 ⟨(x 2).val, x2_lt⟩ ⟨(x 3).val, x3_lt⟩
      (View.ld (Val := Elt Ideal) (((cfg0.win 0).blk t).view.read (Elt Ideal) Y) r0_12) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 5 ⟨(x 2).val, x2_lt⟩ ⟨(x 3).val, x3_lt⟩
      (View.ld (Val := Elt Ideal) (((cfg0.win 0).blk t).view.read (Elt Ideal) Y) r0_10) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 4 ⟨(x 2).val, x2_lt⟩ ⟨(x 3).val, x3_lt⟩
      (View.ld (Val := Elt Ideal) (((cfg0.win 0).blk t).view.read (Elt Ideal) Y) r0_8) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 3 ⟨(x 2).val, x2_lt⟩ ⟨(x 3).val, x3_lt⟩
      (View.ld (Val := Elt Ideal) (((cfg0.win 0).blk t).view.read (Elt Ideal) Y) r0_6) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 2 ⟨(x 2).val, x2_lt⟩ ⟨(x 3).val, x3_lt⟩
      (View.ld (Val := Elt Ideal) (((cfg0.win 0).blk t).view.read (Elt Ideal) Y) r0_4) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 1 ⟨(x 2).val, x2_lt⟩ ⟨(x 3).val, x3_lt⟩
      (View.ld (Val := Elt Ideal) (((cfg0.win 0).blk t).view.read (Elt Ideal) Y) r0_2) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); erw [hx1]; (try dsimp only); omega
    · blk_simp [idx0 t]; exact hx2
    · blk_simp [idx0 t]; exact hx3
  · refine Eq.trans ?_ (table_at Y _ ⟨t.val, ht⟩ 0 ⟨(x 2).val, x2_lt⟩ ⟨(x 3).val, x3_lt⟩
      (View.ld (Val := Elt Ideal) (((cfg0.win 0).blk t).view.read (Elt Ideal) Y) r0_0) (fun l' => ?_) ?_ ?_ ?_ ?_).symm
    · exact congrArg (k0_pay7 (F := Ideal) _ _ _ _) (index_eq x)
    · pointwise
      blk_point [idx0 t]
    · blk_simp [idx0 t] <;> (try dsimp only) <;> omega
    · blk_simp [idx0 t]; (try dsimp only); omega
    · blk_simp [idx0 t]; exact hx2
    · blk_simp [idx0 t]; exact hx3

end Array

end Cert.BiasTableIdeal.Bias

end
-- ==== Proof.Bias.Rows.lean ====
/-
  The rows of biases the kernel finds: row `d` of a head holds that head's four rows of biases from `d` on, one after another,
  each of its 31 columns and a zero.
-/
module

public import proofs.«01_k».proof.Proof.Gen.BiasTableIdeal.Frame
public import Idealize.ShloMosaic.Lib.Pipeline.ValueKit

@[expose] public section

set_option maxRecDepth 16384

noncomputable section

namespace Cert.BiasTableIdeal.Bias

open Idealize.ShloMosaic Idealize.ShloMosaic.TcCoe Idealize.SL.Sem
open Cert.BiasTableIdeal Cert.BiasTableIdeal.Gen Idealize.ShloMosaic.StableHlo

section Function

variable (x : FVec Ideal S1x32x15x31 .f32)

/-- The biases, each row with a zero after it. -/
abbrev padded : FVec Ideal S32x15x32 .f32 :=
  pad S32x15x32 ![0, 0, 0] ![0, 0, 1] ![0, 0, 0] (shapeCast S32x15x31 x shapeCasts_S1x32x15x31_S32x15x31)
    (sitofp .f32 (constantI S_ 32 0#32)) pads_S32x15x31_S32x15x32_000_000_010 h_S_

/-- Row 0 of every head. -/
abbrev piece0 : FVec Ideal S32x1x128 .f32 :=
  broadcastInDim S32x1x128 ![0, 2] bcast_S32x128_S32x1x128_0_2 (shapeCast S32x128
    (extractStridedSlice S32x4x32 ![0, 0, 0] (padded x) slices_S32x15x32_S32x4x32_0_0_0) shapeCasts_S32x4x32_S32x128)

/-- Row 1 of every head. -/
abbrev piece1 : FVec Ideal S32x1x128 .f32 :=
  broadcastInDim S32x1x128 ![0, 2] bcast_S32x128_S32x1x128_0_2 (shapeCast S32x128
    (extractStridedSlice S32x4x32 ![0, 1, 0] (padded x) slices_S32x15x32_S32x4x32_0_1_0) shapeCasts_S32x4x32_S32x128)

/-- Row 2 of every head. -/
abbrev piece2 : FVec Ideal S32x1x128 .f32 :=
  broadcastInDim S32x1x128 ![0, 2] bcast_S32x128_S32x1x128_0_2 (shapeCast S32x128
    (extractStridedSlice S32x4x32 ![0, 2, 0] (padded x) slices_S32x15x32_S32x4x32_0_2_0) shapeCasts_S32x4x32_S32x128)

/-- Row 3 of every head. -/
abbrev piece3 : FVec Ideal S32x1x128 .f32 :=
  broadcastInDim S32x1x128 ![0, 2] bcast_S32x128_S32x1x128_0_2 (shapeCast S32x128
    (extractStridedSlice S32x4x32 ![0, 3, 0] (padded x) slices_S32x15x32_S32x4x32_0_3_0) shapeCasts_S32x4x32_S32x128)

/-- Row 4 of every head. -/
abbrev piece4 : FVec Ideal S32x1x128 .f32 :=
  broadcastInDim S32x1x128 ![0, 2] bcast_S32x128_S32x1x128_0_2 (shapeCast S32x128
    (extractStridedSlice S32x4x32 ![0, 4, 0] (padded x) slices_S32x15x32_S32x4x32_0_4_0) shapeCasts_S32x4x32_S32x128)

/-- Row 5 of every head. -/
abbrev piece5 : FVec Ideal S32x1x128 .f32 :=
  broadcastInDim S32x1x128 ![0, 2] bcast_S32x128_S32x1x128_0_2 (shapeCast S32x128
    (extractStridedSlice S32x4x32 ![0, 5, 0] (padded x) slices_S32x15x32_S32x4x32_0_5_0) shapeCasts_S32x4x32_S32x128)

/-- Row 6 of every head. -/
abbrev piece6 : FVec Ideal S32x1x128 .f32 :=
  broadcastInDim S32x1x128 ![0, 2] bcast_S32x128_S32x1x128_0_2 (shapeCast S32x128
    (extractStridedSlice S32x4x32 ![0, 6, 0] (padded x) slices_S32x15x32_S32x4x32_0_6_0) shapeCasts_S32x4x32_S32x128)

/-- Row 7 of every head. -/
abbrev piece7 : FVec Ideal S32x1x128 .f32 :=
  broadcastInDim S32x1x128 ![0, 2] bcast_S32x128_S32x1x128_0_2 (shapeCast S32x128
    (extractStridedSlice S32x4x32 ![0, 7, 0] (padded x) slices_S32x15x32_S32x4x32_0_7_0) shapeCasts_S32x4x32_S32x128)

/-- Row 8 of every head. -/
abbrev piece8 : FVec Ideal S32x1x128 .f32 :=
  broadcastInDim S32x1x128 ![0, 2] bcast_S32x128_S32x1x128_0_2 (shapeCast S32x128
    (extractStridedSlice S32x4x32 ![0, 8, 0] (padded x) slices_S32x15x32_S32x4x32_0_8_0) shapeCasts_S32x4x32_S32x128)

/-- Row 9 of every head. -/
abbrev piece9 : FVec Ideal S32x1x128 .f32 :=
  broadcastInDim S32x1x128 ![0, 2] bcast_S32x128_S32x1x128_0_2 (shapeCast S32x128
    (extractStridedSlice S32x4x32 ![0, 9, 0] (padded x) slices_S32x15x32_S32x4x32_0_9_0) shapeCasts_S32x4x32_S32x128)

/-- Row 10 of every head. -/
abbrev piece10 : FVec Ideal S32x1x128 .f32 :=
  broadcastInDim S32x1x128 ![0, 2] bcast_S32x128_S32x1x128_0_2 (shapeCast S32x128
    (extractStridedSlice S32x4x32 ![0, 10, 0] (padded x) slices_S32x15x32_S32x4x32_0_10_0) shapeCasts_S32x4x32_S32x128)

/-- Row 11 of every head. -/
abbrev piece11 : FVec Ideal S32x1x128 .f32 :=
  broadcastInDim S32x1x128 ![0, 2] bcast_S32x128_S32x1x128_0_2 (shapeCast S32x128
    (extractStridedSlice S32x4x32 ![0, 11, 0] (padded x) slices_S32x15x32_S32x4x32_0_11_0) shapeCasts_S32x4x32_S32x128)

/-- The rows of biases. -/
abbrev rows : FVec Ideal S32x12x128 .f32 :=
  concatenate S32x12x128 1 [⟨S32x1x128, piece0 x⟩, ⟨S32x1x128, piece1 x⟩, ⟨S32x1x128, piece2 x⟩, ⟨S32x1x128, piece3 x⟩, ⟨S32x1x128, piece4 x⟩, ⟨S32x1x128, piece5 x⟩, ⟨S32x1x128, piece6 x⟩, ⟨S32x1x128, piece7 x⟩, ⟨S32x1x128, piece8 x⟩, ⟨S32x1x128, piece9 x⟩, ⟨S32x1x128, piece10 x⟩, ⟨S32x1x128, piece11 x⟩]
    concatenates_S32x1x128_S32x1x128_S32x1x128_S32x1x128_S32x1x128_S32x1x128_S32x1x128_S32x1x128_S32x1x128_S32x1x128_S32x1x128_S32x1x128_S32x12x128_d1

theorem rows0_at (h : Fin 32) (l : Fin 128) (n : Fin 15) (e : Fin 31) (hn : n.val = 0 + l.val / 32) (he : e.val = l.val % 32) :
    rows x (ix3 h 0 l) = x (ix4 0 h n e) := by
  refine Eq.trans (b := piece0 x (ix3 h 0 l)) (by pointwise [rows]) ?_
  pointwise [piece0]
  rw [dif_pos ⟨by omega, by omega⟩]
  exact congrArg₂ (fun a b => x (ix4 0 h a b)) (Fin.ext (by dsimp only; omega)) (Fin.ext he.symm)

theorem rows1_at (h : Fin 32) (l : Fin 128) (n : Fin 15) (e : Fin 31) (hn : n.val = 1 + l.val / 32) (he : e.val = l.val % 32) :
    rows x (ix3 h 1 l) = x (ix4 0 h n e) := by
  refine Eq.trans (b := piece1 x (ix3 h 0 l)) (by pointwise [rows]) ?_
  pointwise [piece1]
  rw [dif_pos ⟨by omega, by omega⟩]
  exact congrArg₂ (fun a b => x (ix4 0 h a b)) (Fin.ext (by dsimp only; omega)) (Fin.ext he.symm)

theorem rows2_at (h : Fin 32) (l : Fin 128) (n : Fin 15) (e : Fin 31) (hn : n.val = 2 + l.val / 32) (he : e.val = l.val % 32) :
    rows x (ix3 h 2 l) = x (ix4 0 h n e) := by
  refine Eq.trans (b := piece2 x (ix3 h 0 l)) (by pointwise [rows]) ?_
  pointwise [piece2]
  rw [dif_pos ⟨by omega, by omega⟩]
  exact congrArg₂ (fun a b => x (ix4 0 h a b)) (Fin.ext (by dsimp only; omega)) (Fin.ext he.symm)

theorem rows3_at (h : Fin 32) (l : Fin 128) (n : Fin 15) (e : Fin 31) (hn : n.val = 3 + l.val / 32) (he : e.val = l.val % 32) :
    rows x (ix3 h 3 l) = x (ix4 0 h n e) := by
  refine Eq.trans (b := piece3 x (ix3 h 0 l)) (by pointwise [rows]) ?_
  pointwise [piece3]
  rw [dif_pos ⟨by omega, by omega⟩]
  exact congrArg₂ (fun a b => x (ix4 0 h a b)) (Fin.ext (by dsimp only; omega)) (Fin.ext he.symm)

theorem rows4_at (h : Fin 32) (l : Fin 128) (n : Fin 15) (e : Fin 31) (hn : n.val = 4 + l.val / 32) (he : e.val = l.val % 32) :
    rows x (ix3 h 4 l) = x (ix4 0 h n e) := by
  refine Eq.trans (b := piece4 x (ix3 h 0 l)) (by pointwise [rows]) ?_
  pointwise [piece4]
  rw [dif_pos ⟨by omega, by omega⟩]
  exact congrArg₂ (fun a b => x (ix4 0 h a b)) (Fin.ext (by dsimp only; omega)) (Fin.ext he.symm)

theorem rows5_at (h : Fin 32) (l : Fin 128) (n : Fin 15) (e : Fin 31) (hn : n.val = 5 + l.val / 32) (he : e.val = l.val % 32) :
    rows x (ix3 h 5 l) = x (ix4 0 h n e) := by
  refine Eq.trans (b := piece5 x (ix3 h 0 l)) (by pointwise [rows]) ?_
  pointwise [piece5]
  rw [dif_pos ⟨by omega, by omega⟩]
  exact congrArg₂ (fun a b => x (ix4 0 h a b)) (Fin.ext (by dsimp only; omega)) (Fin.ext he.symm)

theorem rows6_at (h : Fin 32) (l : Fin 128) (n : Fin 15) (e : Fin 31) (hn : n.val = 6 + l.val / 32) (he : e.val = l.val % 32) :
    rows x (ix3 h 6 l) = x (ix4 0 h n e) := by
  refine Eq.trans (b := piece6 x (ix3 h 0 l)) (by pointwise [rows]) ?_
  pointwise [piece6]
  rw [dif_pos ⟨by omega, by omega⟩]
  exact congrArg₂ (fun a b => x (ix4 0 h a b)) (Fin.ext (by dsimp only; omega)) (Fin.ext he.symm)

theorem rows7_at (h : Fin 32) (l : Fin 128) (n : Fin 15) (e : Fin 31) (hn : n.val = 7 + l.val / 32) (he : e.val = l.val % 32) :
    rows x (ix3 h 7 l) = x (ix4 0 h n e) := by
  refine Eq.trans (b := piece7 x (ix3 h 0 l)) (by pointwise [rows]) ?_
  pointwise [piece7]
  rw [dif_pos ⟨by omega, by omega⟩]
  exact congrArg₂ (fun a b => x (ix4 0 h a b)) (Fin.ext (by dsimp only; omega)) (Fin.ext he.symm)

theorem rows8_at (h : Fin 32) (l : Fin 128) (n : Fin 15) (e : Fin 31) (hn : n.val = 8 + l.val / 32) (he : e.val = l.val % 32) :
    rows x (ix3 h 8 l) = x (ix4 0 h n e) := by
  refine Eq.trans (b := piece8 x (ix3 h 0 l)) (by pointwise [rows]) ?_
  pointwise [piece8]
  rw [dif_pos ⟨by omega, by omega⟩]
  exact congrArg₂ (fun a b => x (ix4 0 h a b)) (Fin.ext (by dsimp only; omega)) (Fin.ext he.symm)

theorem rows9_at (h : Fin 32) (l : Fin 128) (n : Fin 15) (e : Fin 31) (hn : n.val = 9 + l.val / 32) (he : e.val = l.val % 32) :
    rows x (ix3 h 9 l) = x (ix4 0 h n e) := by
  refine Eq.trans (b := piece9 x (ix3 h 0 l)) (by pointwise [rows]) ?_
  pointwise [piece9]
  rw [dif_pos ⟨by omega, by omega⟩]
  exact congrArg₂ (fun a b => x (ix4 0 h a b)) (Fin.ext (by dsimp only; omega)) (Fin.ext he.symm)

theorem rows10_at (h : Fin 32) (l : Fin 128) (n : Fin 15) (e : Fin 31) (hn : n.val = 10 + l.val / 32) (he : e.val = l.val % 32) :
    rows x (ix3 h 10 l) = x (ix4 0 h n e) := by
  refine Eq.trans (b := piece10 x (ix3 h 0 l)) (by pointwise [rows]) ?_
  pointwise [piece10]
  rw [dif_pos ⟨by omega, by omega⟩]
  exact congrArg₂ (fun a b => x (ix4 0 h a b)) (Fin.ext (by dsimp only; omega)) (Fin.ext he.symm)

theorem rows11_at (h : Fin 32) (l : Fin 128) (n : Fin 15) (e : Fin 31) (hn : n.val = 11 + l.val / 32) (he : e.val = l.val % 32) :
    rows x (ix3 h 11 l) = x (ix4 0 h n e) := by
  refine Eq.trans (b := piece11 x (ix3 h 0 l)) (by pointwise [rows]) ?_
  pointwise [piece11]
  rw [dif_pos ⟨by omega, by omega⟩]
  exact congrArg₂ (fun a b => x (ix4 0 h a b)) (Fin.ext (by dsimp only; omega)) (Fin.ext he.symm)

/-- A row of biases at one of its lanes that hold a column. -/
theorem rows_at (h : Fin 32) (d : Fin 12) (l : Fin 128) (n : Fin 15) (e : Fin 31) (hn : n.val = d.val + l.val / 32)
    (he : e.val = l.val % 32) : rows x (ix3 h d l) = x (ix4 0 h n e) :=
  match d, hn with
  | ⟨0, _⟩, hn => rows0_at x h l n e hn he
  | ⟨1, _⟩, hn => rows1_at x h l n e hn he
  | ⟨2, _⟩, hn => rows2_at x h l n e hn he
  | ⟨3, _⟩, hn => rows3_at x h l n e hn he
  | ⟨4, _⟩, hn => rows4_at x h l n e hn he
  | ⟨5, _⟩, hn => rows5_at x h l n e hn he
  | ⟨6, _⟩, hn => rows6_at x h l n e hn he
  | ⟨7, _⟩, hn => rows7_at x h l n e hn he
  | ⟨8, _⟩, hn => rows8_at x h l n e hn he
  | ⟨9, _⟩, hn => rows9_at x h l n e hn he
  | ⟨10, _⟩, hn => rows10_at x h l n e hn he
  | ⟨11, _⟩, hn => rows11_at x h l n e hn he

end Function

variable (m : (ℓ : Loc nD τ sig) → Buf (Elt Ideal) ℓ)

/-- The rows the kernel's region finds. -/
theorem rows_entry (c : Dev nD) : V m c main_v38 = rows (m ((c.tc : Thread nD τ).loc main_arg0)) := by
  show StableHlo.after (List.flatten [hostOps0, hostOps0_1, hostOps0_2]) (fun b => m (c, b)) (Proc.devRef .tc main_v38) = _
  simp only [hostOps0, hostOps0_1, hostOps0_2, List.flatten_cons, List.flatten_nil, List.append_nil, List.cons_append,
    List.nil_append, TRef.binary, TRef.unary, TRef.toBuf, TRef.ofBuf, cast_eq]
  after_results_simp
  rfl

end Cert.BiasTableIdeal.Bias

end
-- ==== Proof.Bias.Reference.lean ====
/-
  The bias table's reference, element by element: the relative bias over the logarithm of two inside the window, minus
  infinity outside it.
-/
module

public import proofs.«01_k».proof.Proof.Gen.BiasReferenceIdeal
public import proofs.«01_k».proof.Proof.InProj.Consts
public import proofs.«01_k».proof.Proof.Bias.Array

@[expose] public section

set_option maxRecDepth 16384

noncomputable section

namespace Cert.BiasReferenceIdeal.Bias

open Idealize.ShloMosaic Idealize.ShloMosaic.TcCoe Idealize.SL.Sem
open Cert.BiasReferenceIdeal Cert.BiasReferenceIdeal.Gen Idealize.ShloMosaic.StableHlo
open Cert.BiasTableIdeal.Bias (first start inside scale)

/-- The first column of each query's window. -/
abbrev startW : IVec S64 32 :=
  minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))

/-- The first key column of each query's block. -/
abbrev firstW : IVec S64 32 :=
  select (cmpi .slt startW (broadcastInDim S64 ![] bcast_S_S64 (constantI S_ 32 16#32))) (broadcastInDim S64 ![] bcast_S_S64 (constantI S_ 32 0#32)) (select (cmpi .slt startW (broadcastInDim S64 ![] bcast_S_S64 (constantI S_ 32 32#32))) (broadcastInDim S64 ![] bcast_S_S64 (constantI S_ 32 16#32)) (broadcastInDim S64 ![] bcast_S_S64 (constantI S_ 32 32#32)))

/-- The key columns of each query's block. -/
abbrev colW : IVec S64x32 32 :=
  addi (broadcastInDim S64x32 ![0, 1] bcast_S64x1_S64x32_0_1 (id (broadcastInDim S64x1 ![0] bcast_S64_S64x1_0 firstW))) (broadcastInDim S64x32 ![0, 1] bcast_S1x32_S64x32_0_1 (broadcastInDim S1x32 ![1] bcast_S32_S1x32_1 (iotaInDim S32 32 0)))

/-- Whether a key lies in the window. -/
abbrev maskW : IVec S64x32 1 :=
  andi (cmpi .sge colW (broadcastInDim S64x32 ![0, 1] bcast_S64x1_S64x32_0_1 (broadcastInDim S64x1 ![0] bcast_S64_S64x1_0 startW))) (cmpi .slt colW (broadcastInDim S64x32 ![0, 1] bcast_S64x1_S64x32_0_1 (addi (broadcastInDim S64x1 ![0] bcast_S64_S64x1_0 startW) (broadcastInDim S64x1 ![] bcast_S_S64x1 (constantI S_ 32 16#32)))))

/-- The row of biases of each row of tables and row of keys. -/
abbrev rowW : IVec S12x4x1 32 :=
  broadcastInDim S12x4x1 ![0, 1] bcast_S12x4_S12x4x1_0_1 (addi (broadcastInDim S12x4 ![0, 1] bcast_S12x1_S12x4_0_1 (broadcastInDim S12x1 ![0] bcast_S12_S12x1_0 (iotaInDim S12 32 0))) (broadcastInDim S12x4 ![0, 1] bcast_S1x4_S12x4_0_1 (broadcastInDim S1x4 ![1] bcast_S4_S1x4_1 (iotaInDim S4 32 0))))

/-- The column of biases of each query and key. -/
abbrev diffW : IVec S64x32x1 32 :=
  broadcastInDim S64x32x1 ![0, 1] bcast_S64x32_S64x32x1_0_1 (addi (subi colW (broadcastInDim S64x32 ![0, 1] bcast_S64x1_S64x32_0_1 (broadcastInDim S64x1 ![0] bcast_S64_S64x1_0 (iotaInDim S64 32 0)))) (broadcastInDim S64x32 ![] bcast_S_S64x32 (constantI S_ 32 15#32)))

/-- The biases the reference reads. -/
abbrev biases (x : FVec Ideal S1x32x15x31 .f32) : FVec Ideal S32x12x4x64x32 .f32 :=
  Host.gather gather_S32x12x4x31_S64x32x1_S32x12x4x64x32_012_3_n_n_3_2_321241 (Host.gather gather_S32x15x31_S12x4x1_S32x12x4x31_03_1_n_n_1_2_32131 (shapeCast S32x15x31 x shapeCasts_S1x32x15x31_S32x15x31) rowW) diffW

/-- Biases over the logarithm of two where a mask holds, minus infinity elsewhere. -/
abbrev masked (M : IVec S64x32 1) (B : FVec Ideal S32x12x4x64x32 .f32) : FVec Ideal S32x12x64x128 .f32 :=
  shapeCast S32x12x64x128 (transpose S32x12x64x4x32 [0, 1, 3, 2, 4] (select (broadcastInDim S32x12x4x64x32 ![3, 4] bcast_S64x32_S32x12x4x64x32_3_4 M) (Host.divf B (broadcastInDim S32x12x4x64x32 ![] bcast_S_S32x12x4x64x32 (Host.log (constant S_ .f32 0x40000000#32)))) (broadcastInDim S32x12x4x64x32 ![] bcast_S_S32x12x4x64x32 (id (constant S_ .f32 0xFF800000#32)))) transposes_S32x12x4x64x32_S32x12x64x4x32_0_1_3_2_4) shapeCasts_S32x12x64x4x32_S32x12x64x128

/-- The reference's result. -/
abbrev result (x : FVec Ideal S1x32x15x31 .f32) : FVec Ideal S32x12x64x128 .f32 := masked maskW (biases x)

theorem mask_word : ∀ (q : Fin 64) (k : Fin 32), maskW (ix2 q k) = if inside q.val k.val then 1#1 else 0#1 := by
  decide +kernel

theorem row_word : ∀ (d : Fin 12) (r : Fin 4), min (rowW (ix3 d r 0)).toInt.toNat 14 = d.val + r.val := by
  decide +kernel

theorem diff_word : ∀ (q : Fin 64) (k : Fin 32), inside q.val k.val = true →
    min (diffW (ix3 q k 0)).toInt.toNat 30 + q.val = first q.val + k.val + 15 := by
  decide +kernel

/-- Gathered rows of biases, read at an index. -/
theorem gather_rows (x : FVec Ideal S32x15x31 .f32) (idx : IVec S12x4x1 32) (h : Fin 32) (d : Fin 12) (r : Fin 4) (j : Fin 31) :
    Host.gather gather_S32x15x31_S12x4x1_S32x12x4x31_03_1_n_n_1_2_32131 x idx (ix4 h d r j)
      = x (ix3 h ⟨min (idx (ix3 d r 0)).toInt.toNat 14, by omega⟩ j) := by
  unfold Host.gather
  congr 1
  funext a
  refine Fin.ext ?_
  generalize hD : gather_S32x15x31_S12x4x1_S32x12x4x31_03_1_n_n_1_2_32131 = D
  show D.start (ix4 h d r j) idx a + D.batchCoord (ix4 h d r j) a + D.offCoord (ix4 h d r j) a = _
  rw [GatherDims.batchCoord_eq_zero _ _ _ (by rw [← hD]; exact List.not_mem_nil)]
  subst hD
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (by decide), dif_pos (by decide)]
    simp only [Nat.zero_add]
    rfl
  · rw [GatherDims.offCoord_eq_zero _ _ _ (by decide)]
    unfold GatherDims.start
    rw [dif_pos (by decide)]
    simp only [Nat.add_zero]
    have hsi : ∀ p, GatherDims.siIdx gather_S32x15x31_S12x4x1_S32x12x4x31_03_1_n_n_1_2_32131 (ix4 h d r j) p = ix3 d r 0 := by
      intro p
      funext b; refine Fin.ext ?_
      match b with
      | ⟨0, _⟩ => rfl
      | ⟨1, _⟩ => rfl
      | ⟨2, _⟩ => have h1 : p.val < 1 := p.isLt; show p.val = 0; omega
    rw [hsi]
    rfl
  · unfold GatherDims.start GatherDims.offCoord
    rw [dif_neg (by decide), dif_pos (by decide)]
    simp only [Nat.zero_add]
    rfl

/-- Gathered columns of biases, read at an index. -/
theorem gather_cols (x : FVec Ideal S32x12x4x31 .f32) (idx : IVec S64x32x1 32) (h : Fin 32) (d : Fin 12) (r : Fin 4) (q : Fin 64) (k : Fin 32) :
    Host.gather gather_S32x12x4x31_S64x32x1_S32x12x4x64x32_012_3_n_n_3_2_321241 x idx (ix5 h d r q k)
      = x (ix4 h d r ⟨min (idx (ix3 q k 0)).toInt.toNat 30, by omega⟩) := by
  unfold Host.gather
  congr 1
  funext a
  refine Fin.ext ?_
  generalize hD : gather_S32x12x4x31_S64x32x1_S32x12x4x64x32_012_3_n_n_3_2_321241 = D
  show D.start (ix5 h d r q k) idx a + D.batchCoord (ix5 h d r q k) a + D.offCoord (ix5 h d r q k) a = _
  rw [GatherDims.batchCoord_eq_zero _ _ _ (by rw [← hD]; exact List.not_mem_nil)]
  subst hD
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start GatherDims.offCoord
    rw [dif_neg (by decide), dif_pos (by decide)]
    simp only [Nat.zero_add]
    rfl
  · unfold GatherDims.start GatherDims.offCoord
    rw [dif_neg (by decide), dif_pos (by decide)]
    simp only [Nat.zero_add]
    rfl
  · unfold GatherDims.start GatherDims.offCoord
    rw [dif_neg (by decide), dif_pos (by decide)]
    simp only [Nat.zero_add]
    rfl
  · rw [GatherDims.offCoord_eq_zero _ _ _ (by decide)]
    unfold GatherDims.start
    rw [dif_pos (by decide)]
    simp only [Nat.add_zero]
    have hsi : ∀ p, GatherDims.siIdx gather_S32x12x4x31_S64x32x1_S32x12x4x64x32_012_3_n_n_3_2_321241 (ix5 h d r q k) p = ix3 q k 0 := by
      intro p
      funext b; refine Fin.ext ?_
      match b with
      | ⟨0, _⟩ => rfl
      | ⟨1, _⟩ => rfl
      | ⟨2, _⟩ => have h1 : p.val < 1 := p.isLt; show p.val = 0; omega
    rw [hsi]
    rfl

/-- The word of minus infinity. -/
theorem ofBits_bot : Ideal.ofBits .f32 0xFF800000#32 = (⊥ : EReal) := by
  simp [Ideal.ofBits, Ideal.ieee]

/-- Dividing by the logarithm of two is one product, for every extended real. -/
theorem div_log (y : EReal) : Ideal.div y (Ideal.log (Ideal.ofBits .f32 0x40000000#32)) = y * scale := by
  have hl : Real.log 2 ≠ 0 := (Real.log_pos (by norm_num)).ne'
  rw [InProjReferenceIdeal.Proj.ofBits_2, Ideal.log_coe, if_neg (by norm_num), Ideal.div_coe hl, one_div]
  rfl

theorem masked_at (M : IVec S64x32 1) (B : FVec Ideal S32x12x4x64x32 .f32) (h : Fin 32) (d : Fin 12) (q : Fin 64) (l : Fin 128) :
    masked M B (ix4 h d q l) = Scalar.select (M (ix2 q ⟨l.val % 32, by omega⟩))
      (Ideal.div (B (ix5 h d ⟨l.val / 32, by omega⟩ q ⟨l.val % 32, by omega⟩)) (Ideal.log (Ideal.ofBits .f32 0x40000000#32)))
      (Ideal.ofBits .f32 0xFF800000#32) := by
  pointwise [masked]
  try rfl

variable (x : FVec Ideal S1x32x15x31 .f32)

/-- The bias the reference reads inside the window. -/
theorem biases_at (h : Fin 32) (d : Fin 12) (r : Fin 4) (q : Fin 64) (k : Fin 32) (n : Fin 15) (e : Fin 31)
    (hi : inside q.val k.val = true) (hn : n.val = d.val + r.val) (he : e.val + q.val = first q.val + k.val + 15) :
    biases x (ix5 h d r q k) = x (ix4 0 h n e) := by
  refine (gather_cols _ _ _ _ _ _ _).trans ((gather_rows _ _ _ _ _ _).trans ?_)
  have e1 := row_word d r
  have e2 := diff_word q k hi
  have a1 : (⟨min (rowW (ix3 d r 0)).toInt.toNat 14, by omega⟩ : Fin 15) = n := Fin.ext (e1.trans hn.symm)
  have a2 : (⟨min (diffW (ix3 q k 0)).toInt.toNat 30, by omega⟩ : Fin 31) = e := Fin.ext (by
    show min (diffW (ix3 q k 0)).toInt.toNat 30 = e.val; omega)
  refine Eq.trans (congrArg₂ (fun a b => shapeCast S32x15x31 x shapeCasts_S1x32x15x31_S32x15x31 (ix3 h a b)) a1 a2) ?_
  pointwise

/-- The reference's result inside the window. -/
theorem result_inside (h : Fin 32) (d : Fin 12) (q : Fin 64) (l : Fin 128) (n : Fin 15) (e : Fin 31)
    (hi : inside q.val (l.val % 32) = true) (hn : n.val = d.val + l.val / 32) (he : e.val + q.val = first q.val + l.val % 32 + 15) :
    result x (ix4 h d q l) = x (ix4 0 h n e) * scale := by
  refine (masked_at _ _ _ _ _ _).trans ?_
  rw [mask_word, if_pos hi]
  refine (ValueIdx.select_one _ _).trans ((div_log _).trans (congrArg (· * scale) ?_))
  exact biases_at x h d _ q _ n e hi hn he

/-- The reference's result outside the window. -/
theorem result_outside (h : Fin 32) (d : Fin 12) (q : Fin 64) (l : Fin 128) (hi : ¬ inside q.val (l.val % 32) = true) :
    result x (ix4 h d q l) = ⊥ := by
  refine (masked_at _ _ _ _ _ _).trans ?_
  rw [mask_word, if_neg hi]
  exact (ValueIdx.select_zero _ _).trans ofBits_bot

end Cert.BiasReferenceIdeal.Bias

end
-- ==== Proof.Bias.Claims.lean ====
/-
  The bias table's claims: it runs, leaves its argument unchanged, and over the reals gives the plain reference's table, for
  every array of biases.
-/
module

public import proofs.«01_k».proof.Defs
public import proofs.«01_k».proof.Proof.Gen.BiasTable.Frame
public import proofs.«01_k».proof.Proof.Gen.BiasReferenceIdeal.Run
public import proofs.«01_k».proof.Proof.Bias.Array
public import proofs.«01_k».proof.Proof.Bias.Rows
public import proofs.«01_k».proof.Proof.Bias.Reference

@[expose] public section

set_option maxRecDepth 16384

noncomputable section

namespace Cert.Proof.BiasClaims

open Idealize.ShloMosaic Idealize.ShloMosaic.TcCoe Idealize.SL.Sem
open Idealize.ShloMosaic.StableHlo Cert.BiasTableIdeal.Bias Cert.BiasReferenceIdeal.Bias

theorem frame_p : Cert.quiescent_BiasTable (hBiasTable := Cert.BiasTable.Gen.facts) := fun m ρ _ => Cert.BiasTable.Gen.frame m ρ

theorem frame_pi : Cert.quiescent_BiasTableIdeal (hBiasTableIdeal := Cert.BiasTableIdeal.Gen.facts) := fun m ρ _ =>
  Cert.BiasTableIdeal.Gen.frame m ρ

theorem frame_ri : Cert.quiescent_BiasReferenceIdeal (hBiasReferenceIdeal := Cert.BiasReferenceIdeal.Gen.facts) := fun m ρ _ =>
  (θ_run (Cert.BiasReferenceIdeal.defs (F := Ideal)) _ _).mono (fun r h => ⟨fun c => (h c).2, sem_eq_zero_of_no_sems (by decide) r.2⟩)
    (Cert.BiasReferenceIdeal.Value.run (F := Ideal) m ρ)

/-- The scale and the mask are the named values. -/
theorem preserves : Cert.preserves_BiasTable_BiasTableIdeal :=
  ⟨IdealRules.named_const.statement Cert.BiasTableIdeal.κ "log2_e" .f32 0x3FB8AA3B#32 (((Real.log 2)⁻¹ : ℝ) : EReal) rfl,
    IdealRules.named_const.statement Cert.BiasTableIdeal.κ "mask" .f32 0xF149F2CA#32 ⊥ rfl⟩

/-- An element of the kernel's table. -/
theorem table_ix (Y : FVec Ideal BiasTableIdeal.S32x12x128 .f32) (h : Fin 32) (d : Fin 12) (q : Fin 64) (l : Fin 128) :
    table Y (ValueIdx.ix4 h d q l) = if inside q.val (l.val % 32) then Y (ValueIdx.ix3 h d (lane q l)) * scale else ⊥ := rfl

theorem table_eq_at (x : FVec Ideal BiasReferenceIdeal.S1x32x15x31 .f32) (h : Fin 32) (d : Fin 12) (q : Fin 64) (l : Fin 128) :
    result x (ValueIdx.ix4 h d q l) = table (rows x) (ValueIdx.ix4 h d q l) := by
  rw [table_ix]
  by_cases hi : inside q.val (l.val % 32) = true
  · have hc : start q.val ≤ first q.val + l.val % 32 ∧ first q.val + l.val % 32 < start q.val + 16 := by
      simpa [inside] using hi
    have hs : start q.val = min (q.val - 8) 48 := rfl
    have hn : d.val + l.val / 32 < 15 := by omega
    have he : first q.val + l.val % 32 + 15 - q.val < 31 := by omega
    have hp : (lane q l).val = (l.val + first q.val + 143 - q.val) % 128 := rfl
    refine (result_inside x h d q l ⟨_, hn⟩ ⟨_, he⟩ hi rfl (by dsimp only; omega)).trans ?_
    refine Eq.trans ?_ (if_pos hi).symm
    exact congrArg (· * scale) (rows_at x h d (lane q l) ⟨_, hn⟩ ⟨_, he⟩ (by dsimp only; omega) (by dsimp only; omega)).symm
  · exact (result_outside x h d q l hi).trans (if_neg hi).symm

/-- The reference's table is the kernel's. -/
theorem table_eq (x : FVec Ideal BiasReferenceIdeal.S1x32x15x31 .f32) : result x = table (rows x) := by
  funext i
  rw [ValueIdx.eq_ix4 i]
  exact table_eq_at x _ _ _ _

/-- Over the reals the kernel's table is the reference's. -/
theorem value : Cert.algebraic_BiasTableIdeal_BiasReferenceIdeal (hBiasTableIdeal := Cert.BiasTableIdeal.Gen.facts)
    (hBiasReferenceIdeal := Cert.BiasReferenceIdeal.Gen.facts) := by
  intro m g m' g' _ he
  refine ⟨_, Cert.BiasTableIdeal.Value.run_blocks (F := Ideal) m g, ?_⟩
  refine (θ_run (Cert.BiasReferenceIdeal.defs (F := Ideal)) _ _).mono (fun _ h c => ?_)
    (Cert.BiasReferenceIdeal.Value.run (F := Ideal) m' g')
  obtain ⟨h0, h1⟩ := h c
  refine ⟨h0.trans ?_, h1⟩
  show result (m' ((c.tc : Thread BiasReferenceIdeal.nD BiasReferenceIdeal.τ).loc BiasReferenceIdeal.main_arg0)) = _
  rw [he c]
  exact (table_eq _).trans (table_final m c _ (rows_entry m c)).symm

end Cert.Proof.BiasClaims

end
-- ==== Proof.lean ====
/-
  The proof of `Cert.Claim`. The pooled layer runs at machine words and at the reals, leaves its arguments unchanged, and
  over the reals, on finite input and weights, gives the array that the plain reference gives. The attention layer's input
  projection does the same, on every input and weights, with the four arrays its reference gives.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.Pre_finite
public import proofs.«01_k».proof.Proof.Equal
public import proofs.«01_k».proof.Proof.Finite
public import proofs.«01_k».proof.Proof.InProj.Claims
public import proofs.«01_k».proof.Proof.Bias.Claims

@[expose] public section

set_option maxRecDepth 16384

noncomputable section

namespace Cert.Proof

open Idealize.ShloMosaic Idealize.ShloMosaic.TcCoe Idealize.SL.Sem
open Idealize.ShloMosaic.StableHlo Cert.KernelIdeal.Pool Cert.ReferenceIdeal.Pool

/-- The reference's run. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Arrays of three axes that agree at every index are equal. -/
theorem ext3 {f g : FVec Ideal KernelIdeal.S8x8192x1024 .f32} (h : ∀ B t n, f (ix3 B t n) = g (ix3 B t n)) : f = g := by
  funext i
  rw [eq_ix3 i]
  exact h _ _ _

/-- The reference's element of equal arrays. -/
theorem refE_congr {x x' : FVec Ideal ReferenceIdeal.S8x8192x1024 .f32} {wi wi' : FVec Ideal ReferenceIdeal.S1x1024x4096 .f32}
    {gr gr' : FVec Ideal ReferenceIdeal.S1x4x512x512 .f32} {sc sc' : FVec Ideal ReferenceIdeal.S1x2048 .f32}
    {wo wo' : FVec Ideal ReferenceIdeal.S1x2048x1024 .f32} {g g' b b' : FVec Ideal ReferenceIdeal.S2x1024 .f32}
    (h0 : x = x') (h1 : wi = wi') (h2 : gr = gr') (h3 : sc = sc') (h4 : wo = wo') (h5 : g = g') (h6 : b = b')
    (B : Fin 8) (t : Fin 8192) (n : Fin 1024) : refE x wi gr sc wo g b B t n = refE x' wi' gr' sc' wo' g' b' B t n := by
  rw [h0, h1, h2, h3, h4, h5, h6]

section Values

variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ)

/-- The kernel's array is the reference's. -/
theorem value_eq (c : Dev KernelIdeal.nD) (hp : Pre_KernelIdeal_finite (hPre_finite := Cert.Pre_finite.Gen.facts) m)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5))
    (e6 : m' ((c.tc : Thread ReferenceIdeal.nD ReferenceIdeal.τ).loc ReferenceIdeal.main_arg6) = m ((c.tc : Thread KernelIdeal.nD KernelIdeal.τ).loc KernelIdeal.main_arg6)) :
    ReferenceIdeal.Value.val4 (F := Ideal) (StableHlo.launchContents m' c) (Proc.devRef .tc ReferenceIdeal.main_v158)
      = (KernelIdeal.Gen.dat1 (KernelIdeal.Gen.V3 m g) c).arrAt 7 KernelIdeal.cfg1.N := by
  obtain ⟨hx, hw, hr, hs⟩ := Finite.reals _ _ _ _ _ _ _ (hp c)
  rw [KernelIdeal.Pool.result_eq]
  refine ext3 fun B t n => ?_
  have E := Equal.pool_eq (V1_v2 m g c) (V1_v3 m g c) (V1_v1 m g c) (fun B t d => hx (ix3 B t d)) (fun k j => hw (ix3 0 k j))
    (fun k d e => hr (ix4 0 k d e)) (fun j => hs (ix2 0 j)) (V3_v6 m g c) (V3_v9 m g c) (V3_v12 m g c) B t n
  exact (ReferenceIdeal.Pool.result_at _ B t n).trans
    ((refE_congr e0 e1 e2 e3 e4 e5 e6 B t n).trans ((poolA_at _ _ _ _ _ _ B t n rfl rfl rfl).trans E).symm)

end Values

/-- Over the reals, on finite input and weights, the kernel's result is the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp he =>
  ⟨fun c => (KernelIdeal.Gen.dat1 (KernelIdeal.Gen.V3 m g) c).arrAt 7 KernelIdeal.cfg1.N,
    (θ_run (Cert.KernelIdeal.defs (F := Ideal)) _ _).mono (fun _ h => h.1) (run_result (F := Ideal) m g),
    (θ_run (Cert.ReferenceIdeal.defs (F := Ideal)) _ _).mono (fun _ h c => ⟨((h c).1.trans
        (ReferenceIdeal.Value.val4_main_v158 (StableHlo.launchContents m' c)).symm).trans
        (value_eq m g m' c hp (he c).1 (he c).2.1 (he c).2.2.1 (he c).2.2.2.1 (he c).2.2.2.2.1 (he c).2.2.2.2.2.1 (he c).2.2.2.2.2.2), (h c).2⟩)
      (Cert.ReferenceIdeal.Value.run (F := Ideal) m' g')⟩

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts, Cert.BiasTable.Gen.facts, Cert.BiasTableIdeal.Gen.facts,
  Cert.BiasReferenceIdeal.Gen.facts, Cert.Pre_finite.Gen.facts,
  fun m ρ _ => Cert.Kernel.Gen.frame m ρ, fun m ρ _ => run_frame (F := Ideal) m ρ, fun m ρ _ => run_frame (F := Ideal) m ρ, frame_reference,
  fun m ρ _ => frame_reference m ρ trivial, InProjClaims.frame_p, InProjClaims.frame_pi, InProjClaims.frame_ri,
  BiasClaims.frame_p, BiasClaims.frame_pi, BiasClaims.frame_ri, trivial, value, InProjClaims.preserves, InProjClaims.value,
  BiasClaims.preserves, BiasClaims.value⟩

end Cert.Proof

end
